-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![4096, 512]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S4096x512 : Shape := ⟨2, ![4096, 512]⟩
abbrev S6 : Shape := ⟨1, ![6]⟩
abbrev S_ : Shape := ⟨0, ![]⟩
abbrev S1 : Shape := ⟨1, ![1]⟩
abbrev S512x512 : Shape := ⟨2, ![512, 512]⟩

abbrev nBuf : Space → Nat
  | .hbm => 2
  | .vmem => 2
  | .smem => 0
  | _ => 0

abbrev bufTy : (tb : Table) → Fin (tcTables nBuf tb) → BufTy
  | .hbm, ⟨0, _⟩ => ⟨S1024x512, .bf16⟩
  | .hbm, ⟨1, _⟩ => ⟨S4096x512, .bf16⟩
  | .local _ .vmem, ⟨0, _⟩ => ⟨S1024x512, .bf16⟩
  | .local _ .vmem, ⟨1, _⟩ => ⟨S4096x512, .bf16⟩
  | _, _ => ⟨S1024x512, .bf16⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v32 : BitVec 32 := Scalar.muli v2 c1024_i32
  let v33 : Index := Scalar.indexCast v32
  let c0_20 : Index := 0#32
  ![v33.toNat, 0]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_21 : BitVec 32 := 1024#32
  let v35 : BitVec 32 := Scalar.muli v2 c1024_i32_21
  let c0_i32_30 : BitVec 32 := 0#32
  ![v35.toNat, 0]
def k0_dev3 (d0 : Dev nD) : Nat :=
  let c0_i32_29 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_28 : BitVec 32 := 1#32
  let v41 : BitVec 32 := Scalar.muli v24 c1_i32_28
  let v42 : BitVec 32 := Scalar.addi c0_i32_29 v41
  v42.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_22 : BitVec 32 := 1024#32
  let v36 : BitVec 32 := Scalar.muli v2 c1024_i32_22
  let c512_i32 : BitVec 32 := 512#32
  let v37 : BitVec 32 := Scalar.addi v36 c512_i32
  let c0_i32_36 : BitVec 32 := 0#32
  ![v37.toNat, 0]
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_34 : BitVec 32 := 1#32
  let v49 : BitVec 32 := Scalar.muli v13 c1_i32_34
  let v50 : BitVec 32 := Scalar.addi c0_i32_35 v49
  v50.toNat
def k0_dev5 (d0 : Dev nD) : Nat :=
  let c0_i32_41 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_40 : BitVec 32 := 1#32
  let v57 : BitVec 32 := Scalar.muli v24 c1_i32_40
  let v58 : BitVec 32 := Scalar.addi c0_i32_41 v57
  v58.toNat
def k0_dev6 (d0 : Dev nD) : Nat :=
  let c0_i32_46 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_45 : BitVec 32 := 1#32
  let v65 : BitVec 32 := Scalar.muli v13 c1_i32_45
  let v66 : BitVec 32 := Scalar.addi c0_i32_46 v65
  v66.toNat
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1024_i32_55 : BitVec 32 := 1024#32
  let v79 : BitVec 32 := Scalar.muli v13 c1024_i32_55
  let c0_i32_60 : BitVec 32 := 0#32
  ![v79.toNat, 0]
def k0_dev7 (d0 : Dev nD) : Nat :=
  let c0_i32_59 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_58 : BitVec 32 := 1#32
  let v80 : BitVec 32 := Scalar.muli v24 c1_i32_58
  let v81 : BitVec 32 := Scalar.addi c0_i32_59 v80
  v81.toNat
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1024_i32_68 : BitVec 32 := 1024#32
  let v94 : BitVec 32 := Scalar.muli v24 c1024_i32_68
  let c512_i32_69 : BitVec 32 := 512#32
  let v95 : BitVec 32 := Scalar.addi v94 c512_i32_69
  let c0_i32_73 : BitVec 32 := 0#32
  ![v95.toNat, 0]
def k0_dev8 (d0 : Dev nD) : Nat :=
  let c0_i32_72 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_71 : BitVec 32 := 1#32
  let v96 : BitVec 32 := Scalar.muli v13 c1_i32_71
  let v97 : BitVec 32 := Scalar.addi c0_i32_72 v96
  v97.toNat
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x512 : Shape := ⟨2, ![4096, 512]⟩

abbrev nBuf : Space → Nat
  | .hbm => 1
  | .vmem => 0
  | .smem => 0
  | _ => 0

abbrev bufTy : (tb : Table) → Fin (tcTables nBuf tb) → BufTy
  | .hbm, ⟨0, _⟩ => ⟨S4096x512, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Ideal.Pieces.lean ====
/-
# The gathered buffer in eight pieces

Four devices in a ring each hold 1024 rows of one array of 4096 rows, and every device is to end with all of it in its
output staging buffer. That buffer is cut into eight pieces of 512 rows; piece `2 b` and piece `2 b + 1` are the two
halves of block `b`, device `b`'s own rows. Each of a device's six remote copies carries one piece, from its buffer
to the same place of a neighbour's. This module has the ring, the pieces and the one function every piece is to hold
the rows of.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Tactic

@[expose] public section

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state of the hand protocol: rounds on the machine's semaphores, duties named by a `Bool`. -/
abbrev UB : Type := URounds (GSem nD τ sig) Bool
/-- The whole user ghost state: the pipeline's own rounds and the protocol's. -/
abbrev UU : Type := UR sig nD τ × UB

local notation "𝕄" => MT nD τ sig Unit (Elt F) ℕ UU ℕ

/-- Where the pipeline's rounds live in the ghost state, -/
abbrev EP : Emb (UR sig nD τ) (MT nD τ sig Unit (Elt F) ℕ UU ℕ) := embL
/-- and where the protocol's do. -/
abbrev ER : Emb UB (MT nD τ sig Unit (Elt F) ℕ UU ℕ) := embR

/-! ## The ring -/

set_option backward.proofsInPublic true in
/-- The device after `c`: the right neighbour. -/
def nxt (c : Dev nD) : Dev nD := ⟨(c.val + 1) % 4, Nat.mod_lt _ (by decide)⟩
set_option backward.proofsInPublic true in
/-- The device before `c`: the left neighbour. -/
def prv (c : Dev nD) : Dev nD := ⟨(c.val + 3) % 4, Nat.mod_lt _ (by decide)⟩
theorem prv_nxt (c : Dev nD) : prv (nxt c) = c := by revert c; decide
theorem nxt_prv (c : Dev nD) : nxt (prv c) = c := by revert c; decide

/-- The ring as a permutation of the devices. -/
def ring : Dev nD ≃ Dev nD := ⟨nxt, prv, prv_nxt, nxt_prv⟩

/-! The device each signal and each copy names. -/

theorem dev1_eq (c : Dev nD) : (⟨k0_dev1 c, k0_dev1_lt c⟩ : Dev nD) = prv c := by revert c; decide +kernel
theorem dev2_eq (c : Dev nD) : (⟨k0_dev2 c, k0_dev2_lt c⟩ : Dev nD) = nxt c := by revert c; decide +kernel
theorem dev3_eq (c : Dev nD) : (⟨k0_dev3 c, k0_dev3_lt c⟩ : Dev nD) = nxt c := by revert c; decide +kernel
theorem dev4_eq (c : Dev nD) : (⟨k0_dev4 c, k0_dev4_lt c⟩ : Dev nD) = prv c := by revert c; decide +kernel
theorem dev5_eq (c : Dev nD) : (⟨k0_dev5 c, k0_dev5_lt c⟩ : Dev nD) = nxt c := by revert c; decide +kernel
theorem dev6_eq (c : Dev nD) : (⟨k0_dev6 c, k0_dev6_lt c⟩ : Dev nD) = prv c := by revert c; decide +kernel
theorem dev7_eq (c : Dev nD) : (⟨k0_dev7 c, k0_dev7_lt c⟩ : Dev nD) = nxt c := by revert c; decide +kernel
theorem dev8_eq (c : Dev nD) : (⟨k0_dev8 c, k0_dev8_lt c⟩ : Dev nD) = prv c := by revert c; decide +kernel

/-! ## The pieces -/

set_option backward.proofsInPublic true in
/-- The first piece of block `b`, -/
def top (b : Dev nD) : Fin 8 := ⟨2 * b.val, by have : b.val < 4 := b.isLt; omega⟩
set_option backward.proofsInPublic true in
/-- and the second. -/
def bot (b : Dev nD) : Fin 8 := ⟨2 * b.val + 1, by have : b.val < 4 := b.isLt; omega⟩

/-- The neighbour the `k`-th copy goes to: even copies go right, odd ones left. -/
def peer (k : Fin 6) (c : Dev nD) : Dev nD := if k.val % 2 = 0 then nxt c else prv c
/-- The neighbour whose `k`-th copy lands on `c`. -/
def orig (k : Fin 6) (c : Dev nD) : Dev nD := if k.val % 2 = 0 then prv c else nxt c
theorem peer_orig (k : Fin 6) (c : Dev nD) : peer k (orig k c) = c := by revert k c; decide
theorem orig_peer (k : Fin 6) (c : Dev nD) : orig k (peer k c) = c := by revert k c; decide

/-- The ring in the direction of the `k`-th copy. -/
def along (k : Fin 6) : Dev nD ≃ Dev nD := ⟨peer k, orig k, orig_peer k, peer_orig k⟩

/-- The piece device `c`'s `k`-th copy carries: both of its own to both neighbours, then the half of the left
    neighbour's block on to the right one, and the half of the right neighbour's block on to the left one. -/
def piece (k : Fin 6) (c : Dev nD) : Fin 8 := match k with
  | 0 => top c
  | 1 => bot c
  | 2 => bot c
  | 3 => top c
  | 4 => top (prv c)
  | 5 => bot (nxt c)

/-- The piece that lands on `c` by the `k`-th copy of the neighbour it comes from. -/
def landing (k : Fin 6) (c : Dev nD) : Fin 8 := piece k (orig k c)

/-- Rows `512 h` to `512 h + 511`. -/
def rows (h : Fin 8) : Finset S4096x512.Idx := Finset.univ.filter fun i => (i 0).val / 512 = h.val

theorem mem_rows {h : Fin 8} {i : S4096x512.Idx} : i ∈ rows h ↔ (i 0).val / 512 = h.val := by
  unfold rows; rw [Finset.mem_filter]; exact ⟨fun h => h.2, fun h => ⟨Finset.mem_univ _, h⟩⟩

theorem rows_disjoint {h h' : Fin 8} (hne : h ≠ h') : Disjoint (rows h) (rows h') :=
  Finset.disjoint_left.mpr fun i hi hi' => hne (Fin.ext ((mem_rows.mp hi).symm.trans (mem_rows.mp hi')))

theorem row_lt (i : S4096x512.Idx) : (i 0).val < 4096 := (i 0).isLt
theorem col_lt (i : S4096x512.Idx) : (i 1).val < 512 := (i 1).isLt

theorem rows_cover : (Finset.univ : Finset (Fin 8)).biUnion rows = Finset.univ := by
  refine Finset.eq_univ_iff_forall.mpr fun i => Finset.mem_biUnion.mpr ?_
  have := row_lt i
  exact ⟨⟨(i 0).val / 512, by omega⟩, Finset.mem_univ _, mem_rows.mpr rfl⟩

/-- The eight pieces of device `c`'s buffer, by how it comes to hold each: its own two, and the six that land. -/
def pieces (c : Dev nD) : List (Fin 8) :=
  [top c, bot c, landing 0 c, landing 2 c, landing 4 c, landing 1 c, landing 3 c, landing 5 c]
theorem pieces_nodup (c : Dev nD) : (pieces c).Nodup := by revert c; decide
theorem pieces_all (c : Dev nD) (h : Fin 8) : h ∈ pieces c := by revert c h; decide

/-! ## The memrefs -/

/-- The staging buffer of the device's own rows, -/
abbrev xM : Memref sig .tc .vmem S1024x512 .bf16 := Memref.whole cc0_stg0_0
/-- and of the gathered array. -/
abbrev oM : Memref sig .tc .vmem S4096x512 .bf16 := Memref.whole cc0_stg1_0

/-- 512 rows of the gathered array's buffer from an offset. -/
abbrev slab (off : Fin 2 → Nat) (inb : ∀ a, off a + S512x512.size a ≤ S4096x512.size a) : Memref sig .tc .vmem S512x512 .bf16 :=
  oM.slice (Rect.unit (s := S4096x512) off S512x512.size inb) (fun _ => rfl)

/-- The offset of a piece. -/
def offOf (h : Fin 8) : Fin 2 → Nat := ![512 * h.val, 0]

theorem off2_eq (c : Dev nD) : k0_off2 c = offOf (top c) := by revert c; decide +kernel
theorem off3_eq (c : Dev nD) : k0_off3 c = offOf (bot c) := by revert c; decide +kernel
theorem off4_eq (c : Dev nD) : k0_off4 c = offOf (top (prv c)) := by revert c; decide +kernel
theorem off5_eq (c : Dev nD) : k0_off5 c = offOf (bot (nxt c)) := by revert c; decide +kernel

/-- The elements of the slab at a piece's offset are the piece's rows. -/
theorem slab_set (h : Fin 8) {off : Fin 2 → Nat} (inb : ∀ a, off a + S512x512.size a ≤ S4096x512.size a) (e : off = offOf h) :
    (slab off inb).view.set = rows h := by
  subst e
  refine Finset.ext fun i => ?_
  rw [show (slab (offOf h) inb).view.set = (Rect.unit (s := S4096x512) (offOf h) S512x512.size inb).set from View.set_slice_whole _ _,
    Rect.mem_set_unit, mem_rows]
  have hr := row_lt i
  have hc := col_lt i
  constructor
  · intro H
    have h0 := H 0
    have e0 : offOf h 0 = 512 * h.val := rfl
    have e1 : S512x512.size 0 = 512 := rfl
    rw [e0, e1] at h0
    omega
  · intro H a
    fin_cases a
    · show 512 * h.val ≤ (i 0).val ∧ (i 0).val < 512 * h.val + 512
      omega
    · show 0 ≤ (i 1).val ∧ (i 1).val < 0 + 512
      omega

/-! ## Contents -/

variable (m : (ℓ : Loc nD τ sig) → Buf (Elt F) ℓ) (ρ : Dev nD → PrngReg)

/-- The launch state: memory `m`, every semaphore zero. -/
def s₀ : MemSt nD τ sig (Elt F) := ⟨m, fun _ => 0, ρ⟩

/-- Device `c`'s own rows, as the pipeline stages them. -/
def xstg (c : Dev nD) : (cc0_stg0_0 : Ref sig .tc).ty.Contents (Elt F) :=
  (win0_0.blk (0 : Fin 1)).view.read (Elt F) ((s₀ m ρ).mem ((c : Thread nD τ).loc main_arg0))

set_option backward.proofsInPublic true in
/-- The device whose block row `i` is of. -/
def owner (i : S4096x512.Idx) : Dev nD := ⟨(i 0).val / 1024, Nat.div_lt_of_lt_mul (row_lt i)⟩
set_option backward.proofsInPublic true in
/-- Where in its block an element is. -/
def inBlock (i : S4096x512.Idx) : S1024x512.Idx := fun a => match a with
  | ⟨0, _⟩ => ⟨(i 0).val % 1024, Nat.mod_lt _ (by decide)⟩
  | ⟨1, _⟩ => ⟨(i 1).val, col_lt i⟩

/-- The gathered array: row `1024 b + r` is row `r` of device `b`'s. -/
def gathered : (cc0_stg1_0 : Ref sig .tc).ty.Contents (Elt F) := fun i => xstg m ρ (owner i) (inBlock i)

/-- A piece of device `c`'s buffer at share `q` and contents `f`. -/
def held (q : PosShare TreeShare) (c : Dev nD) (h : Fin 8) (f : (cc0_stg1_0 : Ref sig .tc).ty.Contents (Elt F)) : sProp 𝕄 :=
  ((c : Thread nD τ).loc cc0_stg1_0) ↦[rows h]{q} f

omit [FloatOps F] in
instance held_storable (q) (c : Dev nD) (h f) : BI.Storable (upEmb : UEmb _ 𝕄) (held (F := F) q c h f) := by unfold held; infer_instance

omit [FloatOps F] in
/-- A piece at the full share is the piece at its two half shares. -/
theorem held_halves (c : Dev nD) (h : Fin 8) (f : (cc0_stg1_0 : Ref sig .tc).ty.Contents (Elt F)) :
    (held fullShare c h f : sProp 𝕄) ⊣⊢ iprop(held fullShare.left c h f ∗ held fullShare.right c h f) :=
  pointsTo_share (PosShare.mem_left_op_right fullShare)

omit [FloatOps F] in
/-- The whole buffer is its eight pieces. -/
theorem whole_pieces (c : Dev nD) (f : (cc0_stg1_0 : Ref sig .tc).ty.Contents (Elt F)) :
    ((((c : Thread nD τ).loc cc0_stg1_0) ↦{fullShare} f : sProp 𝕄))
      = iprop(held fullShare c (top c) f ∗ held fullShare c (bot c) f
          ∗ held fullShare c (landing 0 c) f ∗ held fullShare c (landing 2 c) f ∗ held fullShare c (landing 4 c) f
          ∗ held fullShare c (landing 1 c) f ∗ held fullShare c (landing 3 c) f ∗ held fullShare c (landing 5 c) f) := by
  have h1 : ((((c : Thread nD τ).loc cc0_stg1_0) ↦{fullShare} f : sProp 𝕄)) = bigSep Finset.univ fun h : Fin 8 => held fullShare c h f := by
    refine (congrArg (fun S : Finset S4096x512.Idx => (((c : Thread nD τ).loc cc0_stg1_0) ↦[S]{fullShare} f : sProp 𝕄)) rows_cover.symm).trans ?_
    exact pointsTo_biUnion (ℓ := (c : Thread nD τ).loc cc0_stg1_0) (f := f) (q := fullShare) (Finset.univ : Finset (Fin 8)) rows (fun h _ h' _ hne => rows_disjoint hne)
  rw [h1, bigSep_univ_eq_bigSepL (pieces c) (Finset.ext fun h => ⟨fun _ => List.mem_toFinset.mpr (pieces_all c h), fun _ => Finset.mem_univ _⟩) (pieces_nodup c)]
  simp only [pieces, bigSepL_cons_cons, bigSepL_singleton]
  rfl

/-! ## What the store and the copies leave -/

/-- The rectangle of device `c`'s own rows. -/
abbrev ownRect (c : Dev nD) : Rect S4096x512 := Rect.unit (s := S4096x512) (k0_off1 c) S1024x512.size (k0_off1_inb c)

/-- Its elements are the device's own two pieces'. -/
theorem own_set (c : Dev nD) : ((oM.access (ownRect c) : View sig .tc _ _ _).set : Finset S4096x512.Idx) = rows (top c) ∪ rows (bot c) := by
  refine Finset.ext fun i => ?_
  rw [show (oM.access (ownRect c) : View sig .tc _ _ _).set = (ownRect c).set from View.set_slice_whole _ _,
    Rect.mem_set_unit, Finset.mem_union, mem_rows, mem_rows, k0_off1_eq]
  have hr := row_lt i
  have hc := col_lt i
  have et : (top c).val = 2 * c.val := rfl
  have eb : (bot c).val = 2 * c.val + 1 := rfl
  rw [et, eb]
  constructor
  · intro H
    have h0 : 1024 * c.val ≤ (i 0).val ∧ (i 0).val < 1024 * c.val + 1024 := H 0
    omega
  · intro H a
    fin_cases a
    · show 1024 * c.val ≤ (i 0).val ∧ (i 0).val < 1024 * c.val + 1024
      omega
    · show 0 ≤ (i 1).val ∧ (i 1).val < 0 + 512
      omega

omit [FloatOps F] in
/-- The gathered array read through the device's own rectangle is its own rows. -/
theorem read_own (c : Dev nD) : (oM.access (ownRect c) : View sig .tc _ _ _).read (Elt F) (gathered m ρ) = xstg m ρ c := by
  funext x
  have hx0 : (x 0).val < 1024 := (x 0).isLt
  have hx1 : (x 1).val < 512 := (x 1).isLt
  have e0 : ((oM.access (ownRect c) : View sig .tc _ _ _).emb x 0).val = 1024 * c.val + (x 0).val := by
    show k0_off1 c 0 + 1 * (x 0).val = _
    rw [k0_off1_eq, Nat.one_mul]; rfl
  have e1 : ((oM.access (ownRect c) : View sig .tc _ _ _).emb x 1).val = (x 1).val := by
    show k0_off1 c 1 + 1 * (x 1).val = _
    rw [k0_off1_eq, Nat.one_mul]; exact Nat.zero_add _
  show xstg m ρ (owner ((oM.access (ownRect c) : View sig .tc _ _ _).emb x)) (inBlock ((oM.access (ownRect c) : View sig .tc _ _ _).emb x)) = xstg m ρ c x
  rw [show owner ((oM.access (ownRect c) : View sig .tc _ _ _).emb x) = c from Fin.ext (by
      show ((oM.access (ownRect c) : View sig .tc _ _ _).emb x 0).val / 1024 = c.val
      rw [e0]; omega),
    show inBlock ((oM.access (ownRect c) : View sig .tc _ _ _).emb x) = x from funext fun a => by
      fin_cases a
      · refine Fin.ext ?_
        show ((oM.access (ownRect c) : View sig .tc _ _ _).emb x 0).val % 1024 = (x 0).val
        rw [e0]; omega
      · refine Fin.ext ?_
        show ((oM.access (ownRect c) : View sig .tc _ _ _).emb x 1).val = (x 1).val
        exact e1]

/-- The stored value is the loaded one. -/
theorem pay_eq (v : Vec F S1024x512 .bf16) : k0_pay1 v = v := shapeCast_self _ _

/-- On the device's own pieces, the buffer after the store of its own rows is the gathered array. -/
theorem stored_own (c : Dev nD) (f : (cc0_stg1_0 : Ref sig .tc).ty.Contents (Elt F)) :
    ∀ i ∈ rows (top c) ∪ rows (bot c),
      (oM.access (ownRect c) : View sig .tc _ _ _).write (Elt F) f (k0_pay1 (xstg m ρ c)) Finset.univ i = gathered m ρ i := by
  intro i hi
  rw [pay_eq, ← read_own m ρ c, View.write_read_eq_piecewise]
  refine Finset.piecewise_eq_of_mem _ _ _ ?_
  rw [← own_set] at hi; exact hi

omit [FloatOps F] in
/-- On the piece copied, the buffer a copy lands in is the gathered array when the buffer it comes from is. -/
theorem landed (h : Fin 8) {off : Fin 2 → Nat} (inb : ∀ a, off a + S512x512.size a ≤ S4096x512.size a) (e : off = offOf h)
    (fd : (cc0_stg1_0 : Ref sig .tc).ty.Contents (Elt F)) :
    ∀ i ∈ rows h, (slab off inb).view.write (Elt F) fd ((slab off inb).view.read (Elt F) (gathered m ρ)) Finset.univ i = gathered m ρ i := by
  intro i hi
  rw [View.write_read_eq_piecewise]
  refine Finset.piecewise_eq_of_mem _ _ _ ?_
  rw [← slab_set h inb e] at hi; exact hi

end Cert.KernelIdeal.Gather

end
-- ==== Proof.Ideal.Schedule.lean ====
/-
# The protocol

Each device first tells both neighbours, by a unit on the barrier semaphore, that their copies may land on it, handing
each the three pieces of its buffer that neighbour's copies write. It waits for both units, stores its own rows and
starts its copies, each on a send and a receive semaphore of its own. A send semaphore's completion hands back the
share of the piece the copy read; a receive semaphore's hands over the landed piece, at the gathered array's contents.
-/
module

public import proofs.«01_k».proof.Proof.Ideal.Pieces

@[expose] public section

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells -/

/-- The barrier semaphore. -/
abbrev barS : Sem sig := (SemArray.scalar (sig.barrier 0 rfl) : Sems sig S_).sem

set_option backward.proofsInPublic true in
/-- The semaphore the `k`-th copy signals once it has read its piece, -/
def sendS (k : Fin 6) : DmaSem sig := ⟨k.val + 2, by have := k.isLt; show k.val + 2 < 14; omega⟩
set_option backward.proofsInPublic true in
/-- and the one it signals on the neighbour once it has landed. -/
def recvS (k : Fin 6) : DmaSem sig := ⟨k.val + 8, by have := k.isLt; show k.val + 8 < 14; omega⟩

/-- Device `c`'s barrier cell, -/
abbrev barCell (c : Dev nD) : GSem nD τ sig := ((c : Thread nD τ), .reg barS)
/-- its `k`-th send cell -/
abbrev sendCell (c : Dev nD) (k : Fin 6) : GSem nD τ sig := ((c : Thread nD τ), .dma (sendS k))
/-- and its `k`-th receive cell. -/
abbrev recvCell (c : Dev nD) (k : Fin 6) : GSem nD τ sig := ((c : Thread nD τ), .dma (recvS k))

set_option backward.proofsInPublic true in
/-- A device's thirteen semaphores: the barrier, then the twelve of the copies. -/
def csem (j : Fin 13) : SemLoc sig := match j with
  | ⟨0, _⟩ => .reg barS
  | ⟨n + 1, h⟩ => .dma ⟨n + 2, by show n + 2 < 14; omega⟩
/-- The cells, by device and semaphore. -/
abbrev kcell (cj : Dev nD × Fin 13) : GSem nD τ sig := ((cj.1 : Thread nD τ), csem cj.2)

/-- Where the `k`-th send semaphore is among the thirteen, -/
def sIx (k : Fin 6) : Fin 13 := ⟨k.val + 1, by omega⟩
/-- and the `k`-th receive semaphore. -/
def vIx (k : Fin 6) : Fin 13 := ⟨k.val + 7, by omega⟩
theorem csem_send (k : Fin 6) : csem (sIx k) = .dma (sendS k) := rfl
theorem csem_recv (k : Fin 6) : csem (vIx k) = .dma (recvS k) := rfl

/-- What one copy credits: a piece's. -/
abbrev N : ℕ := (slab (offOf 0) (by decide)).view.dmaCredit
theorem N_pos : 0 < N := View.dmaCredit_pos _ (by decide)

/-! ## What each completion hands over -/

/-- The share of its piece the `k`-th copy reads with: a half where two copies read one piece. -/
def share (k : Fin 6) : PosShare TreeShare := match k with
  | 0 => fullShare.left
  | 1 => fullShare.left
  | 2 => fullShare.right
  | 3 => fullShare.right
  | 4 => fullShare
  | 5 => fullShare

/-- The place device `c`'s `k`-th copy lands in, at whatever it holds. -/
def land (k : Fin 6) (c : Dev nD) : sProp 𝕄 := iprop(∃ f, held fullShare (peer k c) (piece k c) f)

omit [FloatOps F] in
instance land_storable (k : Fin 6) (c : Dev nD) : BI.Storable (upEmb : UEmb _ 𝕄) (land (F := F) k c) := by unfold land; infer_instance

/-- From the right neighbour, where the three copies to the right land; -/
def barPayT (c : Dev nD) : sProp 𝕄 := iprop(land 0 c ∗ land 2 c ∗ land 4 c)
/-- from the left one, where the three to the left do. -/
def barPayF (c : Dev nD) : sProp 𝕄 := iprop(land 1 c ∗ land 3 c ∗ land 5 c)

set_option backward.proofsInPublic true in
/-- Which copy a semaphore of a copy is of. -/
def kOf (q : DmaSem sig) : Fin 6 := ⟨(q.val - 2) % 6, Nat.mod_lt _ (by decide)⟩
theorem kOf_send (k : Fin 6) : kOf (sendS k) = k := by revert k; decide
theorem kOf_recv (k : Fin 6) : kOf (recvS k) = k := by revert k; decide

/-- The piece a send completion hands back, -/
def sendPay (k : Fin 6) (c : Dev nD) : sProp 𝕄 := held (share k) c (piece k c) (gathered m ρ)
/-- and the one a receive completion hands over. -/
def recvPay (k : Fin 6) (c : Dev nD) : sProp 𝕄 := held fullShare c (landing k c) (gathered m ρ)

/-- One round on each cell: a barrier cell's two units, from the right neighbour (`true`) and the left (`false`), each
    copy's one credit on its send cell and on its receive cell. -/
def sched : Rounds.Schedule (GSem nD τ sig) Bool 𝕄 where
  duties g r := match g.2 with
    | .reg s => if r = 0 ∧ g.1.2 = .tc ∧ s = barS then Finset.univ else ∅
    | .dma q => if r = 0 ∧ g.1.2 = .tc ∧ 2 ≤ q.val then {false} else ∅
  unitless _ := False
  amount g _ _ := match g.2 with
    | .reg _ => 1
    | .dma _ => N
  payload g _ d := match g.2 with
    | .reg _ => if d then barPayT g.1.1 else barPayF g.1.1
    | .dma q => if q.val < 8 then sendPay m ρ (kOf q) g.1.1 else recvPay m ρ (kOf q) g.1.1
  amount_pos g _ _ _ := by
    obtain ⟨t, s | q⟩ := g
    · exact Nat.one_pos
    · exact N_pos

instance sched_payload_storable (g : GSem nD τ sig) (r : ℕ) (d : Bool) :
    BI.Storable (upEmb : UEmb _ 𝕄) ((sched (F := F) m ρ).payload g r d) := by
  obtain ⟨t, s | q⟩ := g
  · show BI.Storable upEmb (if d then barPayT t.1 else barPayF t.1)
    unfold barPayT barPayF
    split <;> infer_instance
  · show BI.Storable upEmb (if q.val < 8 then sendPay m ρ (kOf q) t.1 else recvPay m ρ (kOf q) t.1)
    unfold sendPay recvPay
    split <;> infer_instance

section Sched
variable (c : Dev nD)

omit [FloatOps F] in
theorem duties_bar : (sched (F := F) m ρ).duties (barCell c) 0 = Finset.univ := by
  show (if (0 : ℕ) = 0 ∧ (Kind.tc : Kind) = .tc ∧ barS = barS then (Finset.univ : Finset Bool) else ∅) = Finset.univ
  exact if_pos ⟨rfl, rfl, rfl⟩
omit [FloatOps F] in
theorem duties_dma (q : DmaSem sig) (hq : 2 ≤ q.val) : (sched (F := F) m ρ).duties ((c : Thread nD τ), .dma q) 0 = {false} :=
  if_pos ⟨rfl, rfl, hq⟩
omit [FloatOps F] in
theorem duties_later (g : GSem nD τ sig) : ∀ r, 1 ≤ r → (sched (F := F) m ρ).duties g r = ∅ := by
  intro r hr
  obtain ⟨t, s | q⟩ := g
  · exact if_neg fun h => by omega
  · exact if_neg fun h => by omega

theorem two_le_send (k : Fin 6) : 2 ≤ (sendS k).val := Nat.le_add_left _ _
theorem two_le_recv (k : Fin 6) : 2 ≤ (recvS k).val := by show 2 ≤ k.val + 8; omega

omit [FloatOps F] in
theorem expect_bar : (sched (F := F) m ρ).expect (barCell c) 0 = 2 := by
  unfold Schedule.expect Schedule.amountOf
  rw [duties_bar]; rfl
omit [FloatOps F] in
theorem expect_dma (q : DmaSem sig) (hq : 2 ≤ q.val) : (sched (F := F) m ρ).expect ((c : Thread nD τ), .dma q) 0 = N := by
  unfold Schedule.expect Schedule.amountOf
  rw [duties_dma m ρ c q hq, Finset.sum_singleton]; rfl

omit [FloatOps F] in
theorem payload_send (k : Fin 6) (d : Bool) : (sched (F := F) m ρ).payload (sendCell c k) 0 d = sendPay m ρ k c := by
  show (if (sendS k).val < 8 then sendPay m ρ (kOf (sendS k)) c else recvPay m ρ (kOf (sendS k)) c) = sendPay m ρ k c
  rw [kOf_send, if_pos (show (sendS k).val < 8 by show k.val + 2 < 8; omega)]
omit [FloatOps F] in
theorem payload_recv (k : Fin 6) (d : Bool) : (sched (F := F) m ρ).payload (recvCell c k) 0 d = recvPay m ρ k c := by
  show (if (recvS k).val < 8 then sendPay m ρ (kOf (recvS k)) c else recvPay m ρ (kOf (recvS k)) c) = recvPay m ρ k c
  rw [kOf_recv, if_neg (show ¬ (recvS k).val < 8 by show ¬ k.val + 8 < 8; omega)]

omit [FloatOps F] in
/-- The barrier's whole round hands over where all six copies land. -/
theorem rest_bar : bigSep ((sched (F := F) m ρ).duties (barCell c) 0 \ ∅) (fun d => (sched (F := F) m ρ).payload (barCell c) 0 d)
    = iprop(barPayF c ∗ barPayT c) := by
  rw [Finset.sdiff_empty, duties_bar, bigSep_univ_eq_bigSepL [false, true] (by decide) (by decide), bigSepL_cons_cons, bigSepL_singleton]
  rfl
omit [FloatOps F] in
theorem rest_dma (q : DmaSem sig) (hq : 2 ≤ q.val) :
    bigSep ((sched (F := F) m ρ).duties ((c : Thread nD τ), .dma q) 0 \ ∅) (fun d => (sched (F := F) m ρ).payload ((c : Thread nD τ), .dma q) 0 d)
      = (sched (F := F) m ρ).payload ((c : Thread nD τ), .dma q) 0 false := by
  rw [Finset.sdiff_empty, duties_dma m ρ c q hq, bigSep_singleton]

end Sched

/-! ## What a device owes, and the order of the waits -/

/-- What device `c`'s `k`-th copy owes the neighbour it goes to. -/
def due (k : Fin 6) (c : Dev nD) : CellTallies nD τ sig Unit := tallyAt (recvCell (peer k c) k) () N
/-- What is still owed when `n` copies are still to start: the last `n`. -/
def rem (c : Dev nD) : ℕ → CellTallies nD τ sig Unit
  | 0 => 0
  | n + 1 => rem c n + due ⟨5 - n, by omega⟩ c
/-- What is owed after the first signal: a unit to the right neighbour and all six copies. -/
def O₁ (c : Dev nD) : CellTallies nD τ sig Unit := rem c 6 + tallyAt (barCell (nxt c)) () 1
/-- What is owed at launch: a unit to the left neighbour besides. -/
def O₀ (c : Dev nD) : CellTallies nD τ sig Unit := O₁ c + tallyAt (barCell (prv c)) () 1

/-- Every cell of a core is waited on at the one index. -/
def L (g : GSem nD τ sig) : Finset Unit := if g.1.2 = .tc then {()} else ∅
/-- The levels: staging and sends lowest, then the barrier, then the receives in the order they are waited for. -/
def lv (g : GSem nD τ sig) (_ : Unit) : ℕ := match g.2 with
  | .reg _ => 1
  | .dma q => if q.val < 8 then 0 else q.val

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (k : Fin 6) : lv (recvCell c k) () = k.val + 8 := by
  show (if (recvS k).val < 8 then 0 else (recvS k).val) = k.val + 8
  rw [if_neg (show ¬ (recvS k).val < 8 by show ¬ k.val + 8 < 8; omega)]; rfl

/-- What is owed while the last `n` copies are to start is owed to the receive cells of those copies. -/
theorem rem_pos {c : Dev nD} {n : ℕ} {g : GSem nD τ sig} {u : Unit} (h : 0 < rem c n g u) :
    ∃ k : Fin 6, g = recvCell (peer k c) k ∧ 6 ≤ k.val + n := by
  induction n with
  | zero => exact absurd h (Nat.lt_irrefl 0)
  | succ n ih =>
    rcases Pipeline.add_pos_cases h with h | h
    · obtain ⟨k, hk, hn⟩ := ih h
      exact ⟨k, hk, by omega⟩
    · refine ⟨⟨5 - n, by omega⟩, (Pipeline.tallyAt_pos h).1, ?_⟩
      show 6 ≤ 5 - n + (n + 1)
      omega

/-- What is owed at launch is owed to cells above the lowest level. -/
theorem O₀_pos {c : Dev nD} {g : GSem nD τ sig} {u : Unit} (h : 0 < O₀ c g u) : u ∈ L g ∧ 0 < lv g u := by
  rcases Pipeline.add_pos_cases h with h | h
  · rcases Pipeline.add_pos_cases h with h | h
    · obtain ⟨k, rfl, -⟩ := rem_pos h
      refine ⟨by rw [L_tc]; exact Finset.mem_singleton_self _, ?_⟩
      rw [lv_recv]; omega
    · rw [(Pipeline.tallyAt_pos h).1]
      exact ⟨by rw [L_tc]; exact Finset.mem_singleton_self _, Nat.one_pos⟩
  · rw [(Pipeline.tallyAt_pos h).1]
    exact ⟨by rw [L_tc]; exact Finset.mem_singleton_self _, Nat.one_pos⟩

omit [FloatOps F] in
/-- The staging transfers may be waited for at launch and once nothing is owed. -/
theorem mayWait_stage (c : Dev nD) (q : DmaSem sig) (hq : q.val < 8) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (by rw [L_tc]; exact Finset.mem_singleton_self _) fun g i hg => ?_
    rw [show lv ((c : Thread nD τ), SemLoc.dma q) () = 0 from if_pos hq]
    exact O₀_pos hg
  · rw [MayWait_zero]; iintro -; iempintro

omit [FloatOps F] in
/-- The barrier may be waited for while the six copies are owed. -/
theorem mayWait_bar (c : Dev nD) : (levAts L lv : sProp 𝕄) ⊢ MayWait (c : Thread nD τ) (.reg barS) () (rem c 6) := by
  refine Pipeline.mayWait_of_levAts (by rw [L_tc]; exact Finset.mem_singleton_self _) fun g i hg => ?_
  obtain ⟨k, rfl, -⟩ := rem_pos hg
  refine ⟨by rw [L_tc]; exact Finset.mem_singleton_self _, ?_⟩
  rw [lv_recv]; show 1 < k.val + 8; omega

omit [FloatOps F] in
/-- The `k`-th receive may be waited for while only later copies are owed. -/
theorem mayWait_recv (c : Dev nD) (k : Fin 6) (n : ℕ) (hn : k.val + n < 6) :
    (levAts L lv : sProp 𝕄) ⊢ MayWait (c : Thread nD τ) (.dma (recvS k)) () (rem c n) := by
  refine Pipeline.mayWait_of_levAts (by rw [L_tc]; exact Finset.mem_singleton_self _) fun g i hg => ?_
  obtain ⟨k', rfl, h⟩ := rem_pos hg
  refine ⟨by rw [L_tc]; exact Finset.mem_singleton_self _, ?_⟩
  rw [lv_recv, lv_recv]; omega

omit [FloatOps F] in
/-- A send may be waited for whatever copies are owed. -/
theorem mayWait_send (c : Dev nD) (k : Fin 6) (n : ℕ) :
    (levAts L lv : sProp 𝕄) ⊢ MayWait (c : Thread nD τ) (.dma (sendS k)) () (rem c n) := by
  refine Pipeline.mayWait_of_levAts (by rw [L_tc]; exact Finset.mem_singleton_self _) fun g i hg => ?_
  obtain ⟨k', rfl, h⟩ := rem_pos hg
  refine ⟨by rw [L_tc]; exact Finset.mem_singleton_self _, ?_⟩
  rw [lv_recv, show lv (sendCell c k) () = 0 from if_pos (show (sendS k).val < 8 by show k.val + 2 < 8; omega)]; omega

end Cert.KernelIdeal.Gather

end
-- ==== Proof.Ideal.Rules.lean ====
/-
# One device's run

The kernel's body at a symbolic device, executed one rule per effect in program order: from where the launch leaves a
device — its staged rows, its share of the protocol's ghost state and the credits of its waits — to the gathered array
in its output staging buffer, every semaphore at zero again and nothing owed.
-/
module

public import proofs.«01_k».proof.Proof.Ideal.Schedule

@[expose] public section

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The ghost state a device starts from -/

/-- Six assertions, one per copy. -/
def six (Φ : Fin 6 → sProp 𝕄) : sProp 𝕄 := iprop(Φ 0 ∗ Φ 1 ∗ Φ 2 ∗ Φ 3 ∗ Φ 4 ∗ Φ 5)

/-- Every cell's invariant is allocated and every cell's first round open: facts, shared by all devices. -/
def records (K : Dev nD × Fin 13 → ℕ) : sProp 𝕄 :=
  iprop((bigSep Finset.univ fun cj : Dev nD × Fin 13 => cellInv ER (sched m ρ) (K cj) (kcell cj))
    ∗ bigSep Finset.univ fun cj : Dev nD × Fin 13 => reached ER (kcell cj) 0)

instance records_persistent (K : Dev nD × Fin 13 → ℕ) : BI.Persistent (records m ρ K) := by unfold records; infer_instance

omit [FloatOps F] in
theorem inv_at (K : Dev nD × Fin 13 → ℕ) (cj : Dev nD × Fin 13) : records m ρ K ⊢ cellInv ER (sched m ρ) (K cj) (kcell cj) := by
  unfold records
  exact sep_elim_left.trans (bigSep_elim (Finset.mem_univ cj))
omit [FloatOps F] in
theorem reached_at (K : Dev nD × Fin 13 → ℕ) (cj : Dev nD × Fin 13) : records m ρ K ⊢ reached ER (kcell cj) 0 := by
  unfold records
  exact sep_elim_right.trans (bigSep_elim (Finset.mem_univ cj))

/-- The duties device `c` is to pay: a unit on each neighbour's barrier cell, and its copies' on the neighbours' receive
    cells and on its own send cells. -/
def payToks (c : Dev nD) : sProp 𝕄 :=
  iprop(dutyTok ER (barCell (prv c)) 0 true ∗ dutyTok ER (barCell (nxt c)) 0 false
    ∗ six (fun k => dutyTok ER (sendCell c k) 0 false) ∗ six (fun k => dutyTok ER (recvCell (peer k c) k) 0 false))
/-- Device `c`'s positions on its own cells, none advanced. -/
def positions (c : Dev nD) : sProp 𝕄 := bigSep Finset.univ fun j : Fin 13 => atPos ER (kcell (c, j)) 0 ∅ 0

omit [FloatOps F] in
theorem bigSep_fin13 (Φ : Fin 13 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) :=
  bigSep_univ_eq_bigSepL [0, 1, 2, 3, 4, 5, 6, 7, 8, 9, 10, 11, 12] (by decide) (by decide) Φ

omit [FloatOps F] in
theorem positions_eq (c : Dev nD) : (positions c : sProp 𝕄) = iprop(atPos ER (barCell c) 0 ∅ 0
    ∗ atPos ER (sendCell c 0) 0 ∅ 0 ∗ atPos ER (sendCell c 1) 0 ∅ 0 ∗ atPos ER (sendCell c 2) 0 ∅ 0 ∗ atPos ER (sendCell c 3) 0 ∅ 0 ∗ atPos ER (sendCell c 4) 0 ∅ 0 ∗ atPos ER (sendCell c 5) 0 ∅ 0
    ∗ atPos ER (recvCell c 0) 0 ∅ 0 ∗ atPos ER (recvCell c 1) 0 ∅ 0 ∗ atPos ER (recvCell c 2) 0 ∅ 0 ∗ atPos ER (recvCell c 3) 0 ∅ 0 ∗ atPos ER (recvCell c 4) 0 ∅ 0 ∗ atPos ER (recvCell c 5) 0 ∅ 0) := by
  unfold positions; rw [bigSep_fin13]; rfl

/-- A device's share of the ghost state. -/
def ghost (K : Dev nD × Fin 13 → ℕ) (c : Dev nD) : sProp 𝕄 := iprop(records m ρ K ∗ positions c ∗ payToks c)

/-- What a device's body starts from besides its staging buffers: its ghost state and the credits of its waits. -/
def start (c : Dev nD) : sProp 𝕄 :=
  iprop((∃ K, ghost m ρ K c) ∗ cred (tallyAt (barCell c) () 2) ∗ six (fun k => cred (tallyAt (recvCell c k) () N)) ∗ levAts L lv)
/-- What it ends with besides: its semaphores, all at zero. -/
def finish (c : Dev nD) : sProp 𝕄 :=
  iprop(semVal (barCell c) 0 ∗ six (fun k => semVal (sendCell c k) 0) ∗ six (fun k => semVal (recvCell c k) 0))

/-! ## The pipeline's proof data -/

theorem cfg0_N : cfg0.N = 1 := by decide
/-- The grid's one point. -/
def t₀ : Fin cfg0.N := ⟨0, by rw [cfg0_N]; decide⟩
theorem fin_N (t : Fin cfg0.N) : t = t₀ := by obtain ⟨t, ht⟩ := t; have := cfg0_N; exact Fin.ext (by simp only [t₀]; omega)

/-- The body leaves the staged rows as they were and the output staging buffer at the gathered array. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => gathered m ρ
  Φ t := match t with
    | ⟨0, _⟩ => start m ρ c
    | ⟨_ + 1, _⟩ => finish c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ
theorem fetch_0 (t : Fin cfg0.N) : (cfg0.win (0 : Fin 2)).fetch t = true := by rw [fin_N t]; rfl

/-- A whole buffer at given contents, as the pipeline hands it to the body. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-! ## The semaphores each instruction names -/

theorem send_slice0 : ((cc0_scratch0.slice (Rect.unit (s := S6) ![0] ![1] inb_S6_S1_0)).squeeze S_ squeezes_S1_S_).sem = sendS 0 := rfl
theorem recv_slice0 : ((cc0_scratch1.slice (Rect.unit (s := S6) ![0] ![1] inb_S6_S1_0)).squeeze S_ squeezes_S1_S_).sem = recvS 0 := rfl
theorem send_slice1 : ((cc0_scratch0.slice (Rect.unit (s := S6) ![1] ![1] inb_S6_S1_1)).squeeze S_ squeezes_S1_S_).sem = sendS 1 := rfl
theorem recv_slice1 : ((cc0_scratch1.slice (Rect.unit (s := S6) ![1] ![1] inb_S6_S1_1)).squeeze S_ squeezes_S1_S_).sem = recvS 1 := rfl
theorem send_slice2 : ((cc0_scratch0.slice (Rect.unit (s := S6) ![2] ![1] inb_S6_S1_2)).squeeze S_ squeezes_S1_S_).sem = sendS 2 := rfl
theorem recv_slice2 : ((cc0_scratch1.slice (Rect.unit (s := S6) ![2] ![1] inb_S6_S1_2)).squeeze S_ squeezes_S1_S_).sem = recvS 2 := rfl
theorem send_slice3 : ((cc0_scratch0.slice (Rect.unit (s := S6) ![3] ![1] inb_S6_S1_3)).squeeze S_ squeezes_S1_S_).sem = sendS 3 := rfl
theorem recv_slice3 : ((cc0_scratch1.slice (Rect.unit (s := S6) ![3] ![1] inb_S6_S1_3)).squeeze S_ squeezes_S1_S_).sem = recvS 3 := rfl
theorem send_slice4 : ((cc0_scratch0.slice (Rect.unit (s := S6) ![4] ![1] inb_S6_S1_4)).squeeze S_ squeezes_S1_S_).sem = sendS 4 := rfl
theorem recv_slice4 : ((cc0_scratch1.slice (Rect.unit (s := S6) ![4] ![1] inb_S6_S1_4)).squeeze S_ squeezes_S1_S_).sem = recvS 4 := rfl
theorem send_slice5 : ((cc0_scratch0.slice (Rect.unit (s := S6) ![5] ![1] inb_S6_S1_5)).squeeze S_ squeezes_S1_S_).sem = sendS 5 := rfl
theorem recv_slice5 : ((cc0_scratch1.slice (Rect.unit (s := S6) ![5] ![1] inb_S6_S1_5)).squeeze S_ squeezes_S1_S_).sem = recvS 5 := rfl

/-! ## One rule per kind of effect -/

section Body

variable (K : Dev nD × Fin 13 → ℕ)

/-- What the core owes, whatever it has waited for. -/
def owing (c : Dev nD) (O : CellTallies nD τ sig Unit) : sProp 𝕄 := iprop(∃ W, owes (c : Thread nD τ) O W)

omit [FloatOps F] in
/-- What landed on `c` by the `k`-th copy is where that copy of its neighbour lands. -/
theorem land_intro (k : Fin 6) (c : Dev nD) (f : (cc0_stg1_0 : Ref sig .tc).ty.Contents (Elt F)) :
    (held fullShare c (landing k c) f : sProp 𝕄) ⊢ land k (orig k c) := by
  unfold land
  rw [peer_orig]
  iintro H
  iexists f
  iexact H

/-- A copy to any piece's place credits the one amount. -/
theorem slab_amount (off : Fin 2 → Nat) (inb : ∀ a, off a + S512x512.size a ≤ S4096x512.size a) (q : DmaSem sig) :
    (slab off inb).view.amount (.dma q) = N := rfl

/-- The `k`-th copy: a share of its piece and the place it lands in given up, the debt to the neighbour paid, the credit of
    its send completion received. -/
theorem wp_copy (k : Fin 6) (j : ℕ) (hj : k.val + j = 5) (c n : Dev nD) (hn : n = peer k c) {off : Fin 2 → Nat}
    (inb : ∀ a, off a + S512x512.size a ≤ S4096x512.size a) (e : off = offOf (piece k c))
    {hsc : (slab off inb : Memref sig (Dev.tc n : Thread nD τ).2.kind .vmem S512x512 .bf16).view.ref.isScScratch = false}
    {hsrc : (slab off inb).view.WordExact} {hdst : (slab off inb).view.WordExact}
    {hsem : DmaTarget.Typed .vmem (.dma (recvS k)) (.remote (Dev.tc n : Thread nD τ) (slab off inb) (.dma (sendS k)) hsc)}
    {α : Type} {Q : α → sProp 𝕄} {kk : PUnit → Prog (TpuEff nD τ sig (Elt F) Λ₀ .tc) α} :
    iprop(records m ρ K ∗ sendPay m ρ k c ∗ land k c ∗ owing c (rem c (j + 1)) ∗ dutyTok ER (sendCell c k) 0 false
        ∗ dutyTok ER (recvCell (peer k c) k) 0 false)
      ⊢ iprop(((cred (tallyAt (sendCell c k) () N) ∗ owing c (rem c j)) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (slab off inb) (.remote (Dev.tc n : Thread nD τ) (slab off inb) (.dma (sendS k)) hsc) (.dma (recvS k)) hsrc hdst hsem) kk) Q) := by
  subst hn
  have hk : k = ⟨5 - j, by omega⟩ := Fin.ext (by show k.val = 5 - j; omega)
  have hO : rem c (j + 1) = rem c j + tallyAt (recvCell (peer k c) k) () N := by
    show rem c j + due ⟨5 - j, by omega⟩ c = _
    rw [← hk]; rfl
  have hd₁ : false ∈ (sched (F := F) m ρ).duties (sendCell c k) 0 := by
    rw [duties_dma m ρ c _ (two_le_send k)]; exact Finset.mem_singleton_self _
  have hd₂ : false ∈ (sched (F := F) m ρ).duties (recvCell (peer k c) k) 0 := by
    rw [duties_dma m ρ (peer k c) _ (two_le_recv k)]; exact Finset.mem_singleton_self _
  have hr : τ.routes (c : Thread nD τ) (peer k c : Thread nD τ) = true := by routes
  have hA : (sched (F := F) m ρ).amount (sendCell c k) 0 false = N := rfl
  have hB : (sched (F := F) m ρ).amount (recvCell (peer k c) k) 0 false = N := rfl
  have hsrcEq : sendPay m ρ k c = (((slab off inb).view.loc (c : Thread nD τ)) ↦[(slab off inb).view.set]{share k} gathered m ρ : sProp 𝕄) := by
    rw [slab_set _ inb e]; rfl
  have hdstEq (fd : (cc0_stg1_0 : Ref sig .tc).ty.Contents (Elt F)) : (held fullShare (peer k c) (piece k c) fd : sProp 𝕄)
      = (((slab off inb).view.loc (peer k c : Thread nD τ)) ↦[(slab off inb).view.set]{fullShare} fd) := by
    rw [slab_set _ inb e]; rfl
  have hpay₂ (fd : (cc0_stg1_0 : Ref sig .tc).ty.Contents (Elt F)) :
      (((slab off inb).view.loc (peer k c : Thread nD τ)) ↦[(slab off inb).view.set]{fullShare}
        ((slab off inb).view.write (Elt F) fd ((slab off inb).view.read (Elt F) (gathered m ρ)) Finset.univ) : sProp 𝕄)
      = (sched (F := F) m ρ).payload (recvCell (peer k c) k) 0 false := by
    rw [payload_recv, slab_set _ inb e]
    unfold recvPay landing held
    rw [orig_peer]
    exact pointsTo_congr (landed m ρ _ inb e fd)
  rw [hsrcEq]
  unfold land owing
  iintro ⟨#HR, Hs, ⟨%fd, Hd⟩, ⟨%W, HO⟩, Hts, Htr⟩ Hk
  ihave Hd' := (Entails.of_eq (hdstEq fd)) $$ Hd
  iapply (Rounds.wp_send_pointsTo 𝒱₀ ER (sched m ρ) (c : Thread nD τ) none (κ₁ := K (c, sIx k)) (κ₂ := K (peer k c, vIx k))
    (hsrc := hsrc) (hdst := hdst) (hsem := hsem) (k := kk) (r₁ := 0) (r₂ := 0) (d₁ := false) (d₂ := false) (q := share k) (fs := gathered m ρ) (fd := fd)
    hd₁ hd₂ () () N (slab_amount off inb (recvS k)) hA hB (rem c j) hO (W := W)
    (Entails.of_eq (hsrcEq.symm.trans (payload_send m ρ c k false).symm)) (Entails.of_eq (hpay₂ fd)) hr) $$ [Hs Hd' HO Hts Htr]
  · isplitr; · iapply (inv_at m ρ K (c, sIx k)); iexact HR
    isplitr; · iapply (inv_at m ρ K (peer k c, vIx k)); iexact HR
    isplitl [Hs]; · iexact Hs
    isplitl [Hd']; · iexact Hd'
    isplitl [HO]; · iexact HO
    isplitl [Hts]; · iexact Hts
    isplitr; · iapply (reached_at m ρ K (c, sIx k)); iexact HR
    isplitl [Htr]; · iexact Htr
    iapply (reached_at m ρ K (peer k c, vIx k)); iexact HR
  iintro ⟨Hc, HO⟩
  iapply Hk
  isplitl [Hc]; · iexact Hc
  iexists W
  iexact HO

/-- A wait for one of the twelve completions: its payload received, and its cell, which nothing more will be paid to,
    closed at zero. -/
theorem wp_wait_dma (c : Dev nD) (q : DmaSem sig) (hq : 2 ≤ q.val) (j : Fin 13) (hj : csem j = .dma q) (O : CellTallies nD τ sig Unit)
    (hO : (levAts L lv : sProp 𝕄) ⊢ MayWait (c : Thread nD τ) (.dma q) () O)
    {src dst : Memref sig .tc .vmem S512x512 .bf16} {hsrc : src.view.WordExact} {hdst : dst.view.WordExact} (hN : dst.view.dmaCredit = N)
    {α : Type} {Q : α → sProp 𝕄} {kk : PUnit → Prog (TpuEff nD τ sig (Elt F) Λ₀ .tc) α} :
    iprop(records m ρ K ∗ levAts L lv ∗ cred (tallyAt ((c : Thread nD τ), SemLoc.dma q) () N) ∗ owing c O ∗ atPos ER ((c : Thread nD τ), .dma q) 0 ∅ 0)
      ⊢ iprop(((owing c O ∗ semVal ((c : Thread nD τ), .dma q) 0 ∗ (sched (F := F) m ρ).payload ((c : Thread nD τ), .dma q) 0 false)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 q src dst hsrc hdst) kk) Q) := by
  have hinv : records m ρ K ⊢ cellInv ER (sched m ρ) (K (c, j)) ((c : Thread nD τ), .dma q) := by
    rw [← hj]; exact inv_at m ρ K (c, j)
  unfold owing
  iintro ⟨#HR, #Hlev, Hc, ⟨%W, HO⟩, Hat⟩ Hk
  iapply (Rounds.wp_wait_rest_token 𝒱₀ ER (sched m ρ) (c : Thread nD τ) none (κ := K (c, j))
      (wpE_waitDma2_eq 𝒱₀ (c : Thread nD τ) none Set.univ) (Set.mem_univ _) () (O := O) (W := W) (R := 0) (m := 0) (T := ∅)
      (by rw [Nat.zero_add, hN, expect_dma m ρ c q hq])) $$ [Hc HO Hat]
  · isplitr; · iapply hinv; iexact HR
    isplitl [Hc]; · iexact Hc
    isplitl [HO]; · iexact HO
    isplitr; · iapply hO; iexact Hlev
    iexact Hat
  iintro ⟨HO, Hat, -, Hpay⟩
  imod (Rounds.cell_close ER (sched m ρ) (Set.mem_univ (K (c, j))) (fun h => h) (R := 0 + 1) (duties_later m ρ ((c : Thread nD τ), .dma q))) $$ [Hat] with Hz
  · isplitr; · iapply hinv; iexact HR
    iexact Hat
  iapply Hk
  isplitl [HO]
  · iexists _; iexact HO
  isplitl [Hz]; · iexact Hz
  iapply (Entails.of_eq (rest_dma m ρ c q hq)); iexact Hpay

/-- The wait for the `k`-th copy from a neighbour, the last `n` of the device's own still to start: the landed piece. -/
theorem wp_recv (k : Fin 6) (n : ℕ) (hn : k.val + n < 6) (c : Dev nD)
    {src dst : Memref sig .tc .vmem S512x512 .bf16} {hsrc : src.view.WordExact} {hdst : dst.view.WordExact} (hN : dst.view.dmaCredit = N)
    {α : Type} {Q : α → sProp 𝕄} {kk : PUnit → Prog (TpuEff nD τ sig (Elt F) Λ₀ .tc) α} :
    iprop(records m ρ K ∗ levAts L lv ∗ cred (tallyAt (recvCell c k) () N) ∗ owing c (rem c n) ∗ atPos ER (recvCell c k) 0 ∅ 0)
      ⊢ iprop(((owing c (rem c n) ∗ semVal (recvCell c k) 0 ∗ recvPay m ρ k c)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (recvS k) src dst hsrc hdst) kk) Q) := by
  rw [← payload_recv m ρ c k false]
  exact wp_wait_dma m ρ K c (recvS k) (two_le_recv k) (vIx k) (csem_recv k) (rem c n) (mayWait_recv c k n hn) hN

/-- The wait for the `k`-th of the device's own copies to have read its piece: its share of the piece back. -/
theorem wp_sent (k : Fin 6) (n : ℕ) (c : Dev nD)
    {src dst : Memref sig .tc .vmem S512x512 .bf16} {hsrc : src.view.WordExact} {hdst : dst.view.WordExact} (hN : dst.view.dmaCredit = N)
    {α : Type} {Q : α → sProp 𝕄} {kk : PUnit → Prog (TpuEff nD τ sig (Elt F) Λ₀ .tc) α} :
    iprop(records m ρ K ∗ levAts L lv ∗ cred (tallyAt (sendCell c k) () N) ∗ owing c (rem c n) ∗ atPos ER (sendCell c k) 0 ∅ 0)
      ⊢ iprop(((owing c (rem c n) ∗ semVal (sendCell c k) 0 ∗ sendPay m ρ k c)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (sendS k) src dst hsrc hdst) kk) Q) := by
  rw [← payload_send m ρ c k false]
  exact wp_wait_dma m ρ K c (sendS k) (two_le_send k) (sIx k) (csem_send k) (rem c n) (mayWait_send c k n) hN

end Body

end Cert.KernelIdeal.Gather

end
-- ==== Proof.Ideal.Body.lean ====
/-
# The body

The kernel's body at a symbolic device, one rule per effect in program order: the two signals and the wait on the barrier,
the store of the device's own rows, the six copies and the twelve waits.
-/
module

public import proofs.«01_k».proof.Proof.Ideal.Rules

@[expose] public section

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Body

variable (K : Dev nD × Fin 13 → ℕ)

omit [FloatOps F] in
/-- A device's own two pieces are its own rows. -/
theorem own_pieces (c : Dev nD) (f : (cc0_stg1_0 : Ref sig .tc).ty.Contents (Elt F)) :
    ((((c : Thread nD τ).loc cc0_stg1_0) ↦[rows (top c) ∪ rows (bot c)]{fullShare} f : sProp 𝕄))
      ⊣⊢ iprop(held fullShare c (top c) f ∗ held fullShare c (bot c) f) :=
  pointsTo_union (rows_disjoint fun h => by have := congrArg Fin.val h; simp only [top, bot] at this; omega)

/-! What each copy carries: the device's own pieces at a half share each, then the two that landed first. -/

omit [FloatOps F] in
theorem sendPay_0 (c : Dev nD) : (sendPay m ρ 0 c : sProp 𝕄) = held fullShare.left c (top c) (gathered m ρ) := rfl
omit [FloatOps F] in
theorem sendPay_1 (c : Dev nD) : (sendPay m ρ 1 c : sProp 𝕄) = held fullShare.left c (bot c) (gathered m ρ) := rfl
omit [FloatOps F] in
theorem sendPay_2 (c : Dev nD) : (sendPay m ρ 2 c : sProp 𝕄) = held fullShare.right c (bot c) (gathered m ρ) := rfl
omit [FloatOps F] in
theorem sendPay_3 (c : Dev nD) : (sendPay m ρ 3 c : sProp 𝕄) = held fullShare.right c (top c) (gathered m ρ) := rfl
omit [FloatOps F] in
theorem sendPay_4 (c : Dev nD) : (sendPay m ρ 4 c : sProp 𝕄) = recvPay m ρ 0 c := rfl
omit [FloatOps F] in
theorem sendPay_5 (c : Dev nD) : (sendPay m ρ 5 c : sProp 𝕄) = recvPay m ρ 1 c := rfl

/-- The rectangle of all the staged rows, -/
abbrev r0 : Rect S1024x512 := Rect.unit (s := S1024x512) ![0, 0] S1024x512.size inb_S1024x512_S1024x512_0_0

theorem hz : (![0, 0] : Fin 2 → Nat) = fun _ => 0 := funext fun a => by fin_cases a <;> rfl
omit [FloatOps F] in
/-- read whole. -/
theorem read_x (f : (cc0_stg0_0 : Ref sig .tc).ty.Contents (Elt F)) : xM.view.readAt (Elt F) r0.toLoadRect f = f :=
  Memref.readAt_unit_zero (Elt F) cc0_stg0_0 hz _ _

/-- What the body starts from, at the invariants' names `K`. -/
def bodyPre (c : Dev nD) : sProp 𝕄 :=
  iprop((ghost m ρ K c ∗ cred (tallyAt (barCell c) () 2) ∗ six (fun k => cred (tallyAt (recvCell c k) () N)) ∗ levAts L lv)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

/-- What it ends with. -/
def bodyPost (c : Dev nD) : sProp 𝕄 :=
  iprop(finish c ∗ (dats m ρ 0 c).owesAt () t₀.succ ∗ stg c cc0_stg0_0 (xstg m ρ c) ∗ stg c cc0_stg1_0 (gathered m ρ))

set_option maxHeartbeats 3200000 in
/-- The body runs from `bodyPre` to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            cc0_scratch0 cc0_scratch1) Kt := by
  -- the body and its parts as sequences of effects, the semaphores computed
  simp only [cc0_body_eq_skeleton]; unfold cc0_body_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [semSignalWord, semWaitWord, Prog.lift, Prog.bind_op, Prog.bind_ret, Prog.pure_eq_ret, Prog.bind_assoc, wp_deviceId]
  simp only [send_slice0, recv_slice0, send_slice1, recv_slice1, send_slice2, recv_slice2, send_slice3, recv_slice3, send_slice4, recv_slice4, send_slice5, recv_slice5]
  unfold bodyPre ghost payToks six
  rw [positions_eq]
  iintro ⟨⟨⟨⟨#HR, ⟨HatB, HaS0, HaS1, HaS2, HaS3, HaS4, HaS5, HaV0, HaV1, HaV2, HaV3, HaV4, HaV5⟩,
      ⟨HtBP, HtBN, ⟨HtS0, HtS1, HtS2, HtS3, HtS4, HtS5⟩, HtV0, HtV1, HtV2, HtV3, HtV4, HtV5⟩⟩,
      HcB, ⟨HcV0, HcV1, HcV2, HcV3, HcV4, HcV5⟩, #Hlev⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  simp only [dev1_eq c, dev2_eq c]
  -- the output buffer in its eight pieces: its own two, and where the neighbours' copies land
  ihave Hp := (Entails.of_eq (whole_pieces c g1)) $$ Hout
  icases Hp with ⟨Hot, Hob, L0, L2, L4, L1, L3, L5⟩
  -- the FIRST signal, to the left neighbour, with where its three copies to the right land
  unfold O₀
  iapply (Rounds.wp_signal 𝒱₀ ER (sched m ρ) (c : Thread nD τ) none (dst := (prv c : Thread nD τ)) (κ := K (prv c, 0))
      (d := true) (by rw [duties_bar]; exact Finset.mem_univ _) (show (sched (F := F) m ρ).amount (barCell (prv c)) 0 true = (1#32).toNat from rfl) () (O₁ c) rfl)
    $$ [HO HtBP L0 L2 L4]
  · isplitr; · iapply (inv_at m ρ K (prv c, 0)); iexact HR
    isplitl [HO]; · iexact HO
    isplitl [HtBP]; · iexact HtBP
    isplitl [L0 L2 L4]
    · rw [show (sched (F := F) m ρ).payload (barCell (prv c)) 0 true = barPayT (prv c) from rfl]
      unfold barPayT
      isplitl [L0]; · iapply (land_intro 0 c g1); iexact L0
      isplitl [L2]; · iapply (land_intro 2 c g1); iexact L2
      iapply (land_intro 4 c g1); iexact L4
    · iapply (reached_at m ρ K (prv c, 0)); iexact HR
  iintro HO
  -- the SECOND, to the right neighbour, with where its three copies to the left land
  unfold O₁
  iapply (Rounds.wp_signal 𝒱₀ ER (sched m ρ) (c : Thread nD τ) none (dst := (nxt c : Thread nD τ)) (κ := K (nxt c, 0))
      (d := false) (by rw [duties_bar]; exact Finset.mem_univ _) (show (sched (F := F) m ρ).amount (barCell (nxt c)) 0 false = (1#32).toNat from rfl) () (rem c 6) rfl)
    $$ [HO HtBN L1 L3 L5]
  · isplitr; · iapply (inv_at m ρ K (nxt c, 0)); iexact HR
    isplitl [HO]; · iexact HO
    isplitl [HtBN]; · iexact HtBN
    isplitl [L1 L3 L5]
    · rw [show (sched (F := F) m ρ).payload (barCell (nxt c)) 0 false = barPayF (nxt c) from rfl]
      unfold barPayF
      isplitl [L1]; · iapply (land_intro 1 c g1); iexact L1
      isplitl [L3]; · iapply (land_intro 3 c g1); iexact L3
      iapply (land_intro 5 c g1); iexact L5
    · iapply (reached_at m ρ K (nxt c, 0)); iexact HR
  iintro HO
  -- the WAIT for both neighbours, owing the six copies: where they land comes with it
  iapply (Rounds.wp_wait_rest_token 𝒱₀ ER (sched m ρ) (c : Thread nD τ) none (κ := K (c, 0))
      (wpE_semWait_eq 𝒱₀ (c : Thread nD τ) none Set.univ) (Set.mem_univ _) () (O := rem c 6) (W := W) (R := 0) (m := 0) (T := ∅)
      (by rw [expect_bar]; decide)) $$ [HcB HO HatB]
  · isplitr; · iapply (inv_at m ρ K (c, 0)); iexact HR
    isplitl [HcB]; · iexact HcB
    isplitl [HO]; · iexact HO
    isplitr; · iapply (mayWait_bar c); iexact Hlev
    iexact HatB
  iintro ⟨HO, HatB, -, Hpay⟩
  ihave Hp2 := (Entails.of_eq (rest_bar m ρ c)) $$ Hpay
  unfold barPayF barPayT
  icases Hp2 with ⟨⟨L1, L3, L5⟩, L0, L2, L4⟩
  imod (Rounds.cell_close ER (sched m ρ) (Set.mem_univ (K (c, 0))) (fun h => h) (R := 0 + 1) (duties_later m ρ (barCell c))) $$ [HatB] with HzB
  · isplitr; · iapply (inv_at m ρ K (c, 0)); iexact HR
    iexact HatB
  -- the staged rows loaded and stored at the device's own place
  iapply (wp_load 𝒱₀ (c : Thread nD τ) none Set.univ (m := xM) (Finset.subset_univ _)) $$ Hx; iintro Hx
  rw [read_x]
  ihave Hown := (own_pieces c g1).2 $$ [Hot Hob]
  · isplitl [Hot] <;> iassumption
  iapply (wp_load_rect 𝒱₀ (c : Thread nD τ) none Set.univ (m := oM) (r := ownRect c) (own_set c).subset) $$ Hown; iintro Hown
  iapply (wp_store 𝒱₀ (c : Thread nD τ) none Set.univ (m := oM) (r := ownRect c) (Mk := Finset.univ) (own_set c).subset) $$ Hown; iintro Hown
  ihave Hown' := (Entails.of_eq (pointsTo_congr (stored_own m ρ c g1))) $$ Hown
  ihave Hown2 := (own_pieces c (gathered m ρ)).1 $$ Hown'
  icases Hown2 with ⟨Ht, Hb⟩
  ihave Ht2 := (held_halves c (top c) (gathered m ρ)).1 $$ Ht
  icases Ht2 with ⟨HtL, HtR⟩
  ihave Hb2 := (held_halves c (bot c) (gathered m ρ)).1 $$ Hb
  icases Hb2 with ⟨HbL, HbR⟩
  ihave HO := (show (owes (c : Thread nD τ) (rem c 6) (insert (SemLoc.reg barS, ()) W) : sProp 𝕄) ⊢ owing c (rem c 6) from by
    unfold owing; iintro H; iexists _; iexact H) $$ HO
  -- the four copies of the device's own pieces
  iapply (wp_copy m ρ K 0 5 (by decide) c _ (dev3_eq c) _ (off2_eq c)) $$ [HtL L0 HO HtS0 HtV0]
  · isplitr; · iexact HR
    isplitl [HtL]; · rw [sendPay_0]; iexact HtL
    isplitl [L0]; · iexact L0
    isplitl [HO]; · iexact HO
    isplitl [HtS0] <;> iassumption
  iintro ⟨HcS0, HO⟩
  iapply (wp_copy m ρ K 1 4 (by decide) c _ (dev4_eq c) _ (off3_eq c)) $$ [HbL L1 HO HtS1 HtV1]
  · isplitr; · iexact HR
    isplitl [HbL]; · rw [sendPay_1]; iexact HbL
    isplitl [L1]; · iexact L1
    isplitl [HO]; · iexact HO
    isplitl [HtS1] <;> iassumption
  iintro ⟨HcS1, HO⟩
  iapply (wp_copy m ρ K 2 3 (by decide) c _ (dev5_eq c) _ (off3_eq c)) $$ [HbR L2 HO HtS2 HtV2]
  · isplitr; · iexact HR
    isplitl [HbR]; · rw [sendPay_2]; iexact HbR
    isplitl [L2]; · iexact L2
    isplitl [HO]; · iexact HO
    isplitl [HtS2] <;> iassumption
  iintro ⟨HcS2, HO⟩
  iapply (wp_copy m ρ K 3 2 (by decide) c _ (dev6_eq c) _ (off2_eq c)) $$ [HtR L3 HO HtS3 HtV3]
  · isplitr; · iexact HR
    isplitl [HtR]; · rw [sendPay_3]; iexact HtR
    isplitl [L3]; · iexact L3
    isplitl [HO]; · iexact HO
    isplitl [HtS3] <;> iassumption
  iintro ⟨HcS3, HO⟩
  -- each neighbour's first piece, as it lands, sent on to the other
  iapply (wp_recv m ρ K 0 2 (by decide) c (slab_amount _ _ (recvS 0))) $$ [HcV0 HO HaV0]
  · isplitr; · iexact HR
    isplitr; · iexact Hlev
    isplitl [HcV0]; · iexact HcV0
    isplitl [HO] <;> iassumption
  iintro ⟨HO, HzV0, HV0⟩
  iapply (wp_copy m ρ K 4 1 (by decide) c _ (dev7_eq c) _ (off4_eq c)) $$ [HV0 L4 HO HtS4 HtV4]
  · isplitr; · iexact HR
    isplitl [HV0]; · rw [sendPay_4]; iexact HV0
    isplitl [L4]; · iexact L4
    isplitl [HO]; · iexact HO
    isplitl [HtS4] <;> iassumption
  iintro ⟨HcS4, HO⟩
  iapply (wp_recv m ρ K 1 1 (by decide) c (slab_amount _ _ (recvS 1))) $$ [HcV1 HO HaV1]
  · isplitr; · iexact HR
    isplitr; · iexact Hlev
    isplitl [HcV1]; · iexact HcV1
    isplitl [HO] <;> iassumption
  iintro ⟨HO, HzV1, HV1⟩
  iapply (wp_copy m ρ K 5 0 (by decide) c _ (dev8_eq c) _ (off5_eq c)) $$ [HV1 L5 HO HtS5 HtV5]
  · isplitr; · iexact HR
    isplitl [HV1]; · rw [sendPay_5]; iexact HV1
    isplitl [L5]; · iexact L5
    isplitl [HO]; · iexact HO
    isplitl [HtS5] <;> iassumption
  iintro ⟨HcS5, HO⟩
  -- the other pieces landed, and the device's own copies' shares back
  iapply (wp_recv m ρ K 2 0 (by decide) c (slab_amount _ _ (recvS 2))) $$ [HcV2 HO HaV2]
  · isplitr; · iexact HR
    isplitr; · iexact Hlev
    isplitl [HcV2]; · iexact HcV2
    isplitl [HO] <;> iassumption
  iintro ⟨HO, HzV2, HV2⟩
  iapply (wp_recv m ρ K 3 0 (by decide) c (slab_amount _ _ (recvS 3))) $$ [HcV3 HO HaV3]
  · isplitr; · iexact HR
    isplitr; · iexact Hlev
    isplitl [HcV3]; · iexact HcV3
    isplitl [HO] <;> iassumption
  iintro ⟨HO, HzV3, HV3⟩
  iapply (wp_recv m ρ K 4 0 (by decide) c (slab_amount _ _ (recvS 4))) $$ [HcV4 HO HaV4]
  · isplitr; · iexact HR
    isplitr; · iexact Hlev
    isplitl [HcV4]; · iexact HcV4
    isplitl [HO] <;> iassumption
  iintro ⟨HO, HzV4, HV4⟩
  iapply (wp_recv m ρ K 5 0 (by decide) c (slab_amount _ _ (recvS 5))) $$ [HcV5 HO HaV5]
  · isplitr; · iexact HR
    isplitr; · iexact Hlev
    isplitl [HcV5]; · iexact HcV5
    isplitl [HO] <;> iassumption
  iintro ⟨HO, HzV5, HV5⟩
  iapply (wp_sent m ρ K 0 0 c (slab_amount _ _ (sendS 0))) $$ [HcS0 HO HaS0]
  · isplitr; · iexact HR
    isplitr; · iexact Hlev
    isplitl [HcS0]; · iexact HcS0
    isplitl [HO] <;> iassumption
  iintro ⟨HO, HzS0, HS0⟩
  iapply (wp_sent m ρ K 1 0 c (slab_amount _ _ (sendS 1))) $$ [HcS1 HO HaS1]
  · isplitr; · iexact HR
    isplitr; · iexact Hlev
    isplitl [HcS1]; · iexact HcS1
    isplitl [HO] <;> iassumption
  iintro ⟨HO, HzS1, HS1⟩
  iapply (wp_sent m ρ K 2 0 c (slab_amount _ _ (sendS 2))) $$ [HcS2 HO HaS2]
  · isplitr; · iexact HR
    isplitr; · iexact Hlev
    isplitl [HcS2]; · iexact HcS2
    isplitl [HO] <;> iassumption
  iintro ⟨HO, HzS2, HS2⟩
  iapply (wp_sent m ρ K 3 0 c (slab_amount _ _ (sendS 3))) $$ [HcS3 HO HaS3]
  · isplitr; · iexact HR
    isplitr; · iexact Hlev
    isplitl [HcS3]; · iexact HcS3
    isplitl [HO] <;> iassumption
  iintro ⟨HO, HzS3, HS3⟩
  iapply (wp_sent m ρ K 4 0 c (slab_amount _ _ (sendS 4))) $$ [HcS4 HO HaS4]
  · isplitr; · iexact HR
    isplitr; · iexact Hlev
    isplitl [HcS4]; · iexact HcS4
    isplitl [HO] <;> iassumption
  iintro ⟨HO, HzS4, HS4⟩
  iapply (wp_sent m ρ K 5 0 c (slab_amount _ _ (sendS 5))) $$ [HcS5 HO HaS5]
  · isplitr; · iexact HR
    isplitr; · iexact Hlev
    isplitl [HcS5]; · iexact HcS5
    isplitl [HO] <;> iassumption
  iintro ⟨HO, HzS5, HS5⟩
  -- the buffer whole again
  ihave HS0 := (Entails.of_eq (sendPay_0 m ρ c)) $$ HS0
  ihave HS1 := (Entails.of_eq (sendPay_1 m ρ c)) $$ HS1
  ihave HS2 := (Entails.of_eq (sendPay_2 m ρ c)) $$ HS2
  ihave HS3 := (Entails.of_eq (sendPay_3 m ρ c)) $$ HS3
  ihave HS4 := (Entails.of_eq (sendPay_4 m ρ c)) $$ HS4
  ihave HS5 := (Entails.of_eq (sendPay_5 m ρ c)) $$ HS5
  unfold recvPay
  ihave Ht := (held_halves c (top c) (gathered m ρ)).2 $$ [HS0 HS3]
  · isplitl [HS0] <;> iassumption
  ihave Hb := (held_halves c (bot c) (gathered m ρ)).2 $$ [HS1 HS2]
  · isplitl [HS1] <;> iassumption
  ihave Hout := (Entails.of_eq (whole_pieces c (gathered m ρ)).symm) $$ [Ht Hb HS4 HV2 HV4 HS5 HV3 HV5]
  · isplitl [Ht]; · iexact Ht
    isplitl [Hb]; · iexact Hb
    isplitl [HS4]; · iexact HS4
    isplitl [HV2]; · iexact HV2
    isplitl [HV4]; · iexact HV4
    isplitl [HS5]; · iexact HS5
    isplitl [HV3] <;> iassumption
  rw [wp_ret]; imodintro
  iapply Hk
  unfold bodyPost finish six Dat.owesAt Pipeline.owesWithin
  rw [show (dats m ρ 0 c).owed t₀.succ = 0 from rfl]
  isplitl [HzB HzS0 HzS1 HzS2 HzS3 HzS4 HzS5 HzV0 HzV1 HzV2 HzV3 HzV4 HzV5]
  · isplitl [HzB]; · iexact HzB
    isplitl [HzS0 HzS1 HzS2 HzS3 HzS4 HzS5]
    · isplitl [HzS0]; · iexact HzS0
      isplitl [HzS1]; · iexact HzS1
      isplitl [HzS2]; · iexact HzS2
      isplitl [HzS3]; · iexact HzS3
      isplitl [HzS4] <;> iassumption
    isplitl [HzV0]; · iexact HzV0
    isplitl [HzV1]; · iexact HzV1
    isplitl [HzV2]; · iexact HzV2
    isplitl [HzV3]; · iexact HzV3
    isplitl [HzV4] <;> iassumption
  isplitl [HO]
  · unfold owing
    icases HO with ⟨%W', HO⟩
    iexists W'
    isplitr; · ipureintro; exact fun _ _ => Or.inl trivial
    iexact HO
  isplitl [Hx]
  · iexists _; isplitr; · (ipureintro; rfl)
    iexact Hx
  iexists _; isplitr; · (ipureintro; rfl)
  iexact Hout

/-- What the pipeline hands the body at its one point. -/
def bodyPre' (c : Dev nD) : sProp 𝕄 :=
  iprop(start m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The body meets the pipeline's obligation. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      cc0_scratch0 cc0_scratch1) (fun _ => bodyPost m ρ c)
  unfold bodyPre' start
  iintro ⟨⟨⟨%K, Hg⟩, Hrest⟩, Ho, Hx, Hout⟩
  iapply (sound_body m ρ K c fun _ => bodyPost m ρ c)
  unfold bodyPre
  isplitr []
  · isplitl [Hg Hrest]
    · isplitl [Hg] <;> iassumption
    isplitl [Ho]; · iexact Ho
    isplitl [Hx] <;> iassumption
  · iintro H; iexact H

end Body

end Cert.KernelIdeal.Gather

end
-- ==== Proof.Ideal.Run.lean ====
/-
# The launch and the run

The ghost state minted at launch, its tokens dealt to the neighbours that pay with them, the credits of every wait from
what the other devices owe, and the run of the whole program: it always ends, with each device's result the gathered array.
-/
module

public import proofs.«01_k».proof.Proof.Ideal.Body
public import Idealize.ShloMosaic.Lib.Pipeline.CollectiveSegs

@[expose] public section

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens -/

/-- The twelve semaphores of the copies are the kernel's own. -/
abbrev osem : Fin 12 → SemLoc sig := fun j => .dma ⟨j.val + 2, by have := j.isLt; show j.val + 2 < 14; omega⟩

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by decide

theorem kcell_injective : Function.Injective (kcell : Dev nD × Fin 13 → GSem nD τ sig) := by
  rintro ⟨c, j⟩ ⟨c', j'⟩ h
  have h1 : c = c' := congrArg (fun g : GSem nD τ sig => g.1.1) h
  have h2 : j = j' := csem_injective (congrArg Prod.snd h)
  subst h1 h2; rfl

/-- All the cells. -/
def cells : Finset (GSem nD τ sig) := Finset.univ.map ⟨kcell, kcell_injective⟩

set_option backward.proofsInPublic true in
/-- A device's fourteen duties: its barrier's two, then one on each of the twelve. -/
def tokSem (j : Fin 14) : SemLoc sig × Bool := match j with
  | ⟨0, _⟩ => (.reg barS, false)
  | ⟨1, _⟩ => (.reg barS, true)
  | ⟨n + 2, h⟩ => (.dma ⟨n + 2, h⟩, false)
theorem tokSem_injective : Function.Injective tokSem := by decide

/-- The duties by device and number. -/
abbrev tokOf (cj : Dev nD × Fin 14) : GSem nD τ sig × ℕ × Bool := (((cj.1 : Thread nD τ), (tokSem cj.2).1), 0, (tokSem cj.2).2)

theorem tokOf_injective : Function.Injective (tokOf : Dev nD × Fin 14 → GSem nD τ sig × ℕ × Bool) := by
  rintro ⟨c, j⟩ ⟨c', j'⟩ h
  have h1 : c = c' := congrArg (fun x : GSem nD τ sig × ℕ × Bool => x.1.1.1) h
  have h2 : j = j' := tokSem_injective (Prod.ext (congrArg (fun x : GSem nD τ sig × ℕ × Bool => x.1.2) h)
    (congrArg (fun x : GSem nD τ sig × ℕ × Bool => x.2.2) h))
  subst h1 h2; rfl

/-- All the duties. -/
def tokens : Finset (GSem nD τ sig × ℕ × Bool) := Finset.univ.map ⟨tokOf, tokOf_injective⟩

/-- The ghost state at launch. -/
def u₀ : UU :=
  (initOf (Pipeline.cells cfgs cellOf_inj) (Pipeline.launchToks cfgs cellOf_inj), initOf cells tokens)

/-- The tokens of device `c`'s own cells' duties. -/
def toks (c : Dev nD) : sProp 𝕄 :=
  iprop(dutyTok ER (barCell c) 0 true ∗ dutyTok ER (barCell c) 0 false
    ∗ six (fun k => dutyTok ER (sendCell c k) 0 false) ∗ six (fun k => dutyTok ER (recvCell c k) 0 false))

omit [FloatOps F] in
theorem bigSep_fin14 (Φ : Fin 14 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) :=
  bigSep_univ_eq_bigSepL [0, 1, 2, 3, 4, 5, 6, 7, 8, 9, 10, 11, 12, 13] (by decide) (by decide) Φ

omit [FloatOps F] in
theorem toks_intro (c : Dev nD) :
    (bigSep Finset.univ fun j : Fin 14 => (dutyTok ER ((c : Thread nD τ), (tokSem j).1) 0 (tokSem j).2 : sProp 𝕄)) ⊢ toks c := by
  refine BIBase.Entails.trans (Entails.of_eq ((bigSep_fin14 _).trans (rfl : _ = iprop(dutyTok ER (barCell c) 0 false ∗ dutyTok ER (barCell c) 0 true ∗ dutyTok ER (sendCell c 0) 0 false ∗ dutyTok ER (sendCell c 1) 0 false ∗ dutyTok ER (sendCell c 2) 0 false ∗ dutyTok ER (sendCell c 3) 0 false ∗ dutyTok ER (sendCell c 4) 0 false ∗ dutyTok ER (sendCell c 5) 0 false ∗ dutyTok ER (recvCell c 0) 0 false ∗ dutyTok ER (recvCell c 1) 0 false ∗ dutyTok ER (recvCell c 2) 0 false ∗ dutyTok ER (recvCell c 3) 0 false ∗ dutyTok ER (recvCell c 4) 0 false ∗ dutyTok ER (recvCell c 5) 0 false)))) ?_
  unfold toks six
  iintro ⟨HF, HT, H0, H1, H2, H3, H4, H5, H6, H7, H8, H9, H10, H11⟩
  isplitl [HT]; · iexact HT
  isplitl [HF]; · iexact HF
  isplitl [H0 H1 H2 H3 H4 H5]
  · isplitl [H0]; · iexact H0
    isplitl [H1]; · iexact H1
    isplitl [H2]; · iexact H2
    isplitl [H3]; · iexact H3
    isplitl [H4] <;> iassumption
  isplitl [H6]; · iexact H6
  isplitl [H7]; · iexact H7
  isplitl [H8]; · iexact H8
  isplitl [H9]; · iexact H9
  isplitl [H10] <;> iassumption

/-- What the launch deals device `c`: its cells' states and positions, and its cells' duty tokens. -/
def G (c : Dev nD) : sProp 𝕄 :=
  iprop((bigSep Finset.univ fun j : Fin 13 => roundState ER (sched m ρ) (kcell (c, j)) 0)
    ∗ (bigSep Finset.univ fun j : Fin 13 => iprop(atPos ER (kcell (c, j)) 0 ∅ 0 ∗ reached ER (kcell (c, j)) 0)) ∗ toks c)

/-- What it has once the invariants are made and the tokens dealt. -/
def G' (c : Dev nD) : sProp 𝕄 := iprop(∃ K, ghost m ρ K c)

omit [FloatOps F] in
/-- The protocol's ghost state, funded. -/
theorem fund_cells : BI.own (ER (initOf cells tokens)) ⊢ (|==> bigSep Finset.univ (G m ρ) : sProp 𝕄) := by
  have hX (Φ : GSem nD τ sig → sProp 𝕄) : bigSep cells Φ = bigSep Finset.univ fun c : Dev nD => bigSep Finset.univ fun j : Fin 13 => Φ (kcell (c, j)) := by
    unfold cells; rw [bigSep_map, bigSep_univ_prod]; rfl
  have hT : bigSep tokens (fun x => (dutyTok ER x.1 x.2.1 x.2.2 : sProp 𝕄)) ⊢ bigSep Finset.univ fun c : Dev nD => toks c := by
    unfold tokens; rw [bigSep_map, bigSep_univ_prod]
    exact bigSep_mono fun c _ => toks_intro c
  iintro HX
  imod (Rounds.fund ER (sched m ρ) cells tokens) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

/-! ## The semaphores -/

omit [FloatOps F] in
theorem ownSems0_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0 ∗ semVal (sendCell c 3) 0 ∗ semVal (sendCell c 4) 0 ∗ semVal (sendCell c 5) 0
      ∗ semVal (recvCell c 0) 0 ∗ semVal (recvCell c 1) 0 ∗ semVal (recvCell c 2) 0 ∗ semVal (recvCell c 3) 0 ∗ semVal (recvCell c 4) 0 ∗ semVal (recvCell c 5) 0) := by
  rw [Pipeline.ownSems0_eq_of_list c osem [0, 1, 2, 3, 4, 5, 6, 7, 8, 9, 10, 11] (by decide) (by decide)]; rfl
omit [FloatOps F] in
/-- The barrier semaphore is the one that is not the kernel's own. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun j : Fin 13 => semVal (kcell (c, j)) 0 : sProp 𝕄) := by
  rw [ownSems0_eq, unscopedSems0_eq, bigSep_fin13]
  iintro ⟨H, HB⟩
  isplitl [HB]; · iexact HB
  iexact H

omit [FloatOps F] in
/-- Every cell's invariant allocated. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun j => iprop(∃ κ : ℕ, cellInv ER (sched m ρ) κ (kcell (c, j))))
          ∗ (bigSep Finset.univ fun j => iprop(atPos ER (kcell (c, j)) 0 ∅ 0 ∗ reached ER (kcell (c, j)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun j : Fin 13 => semVal (kcell (c, j)) 0) ∗ bigSep Finset.univ fun j : Fin 13 => roundState ER (sched m ρ) (kcell (c, j)) 0)
      ⊢ (|={Set.univ}=> bigSep Finset.univ fun j => iprop(∃ κ : ℕ, cellInv ER (sched m ρ) κ (kcell (c, j))) : sProp 𝕄) from by
        rw [← bigSep_sep']
        exact (bigSep_mono fun j _ => (Rounds.body_intro ER (sched m ρ) (kcell (c, j))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- The tokens dealt: a barrier's two to the neighbours, a receive cell's to the device whose copy lands there. -/
theorem toks_around : (bigSep Finset.univ fun c : Dev nD => (toks c : sProp 𝕄)) ⊢ bigSep Finset.univ fun c : Dev nD => payToks c := by
  unfold toks payToks six
  simp only [bigSep_sep']
  rw [bigSep_univ_equiv ring.symm (fun c : Dev nD => (dutyTok ER (barCell c) 0 true : sProp 𝕄)),
    bigSep_univ_equiv ring (fun c : Dev nD => (dutyTok ER (barCell c) 0 false : sProp 𝕄)),
    bigSep_univ_equiv (along 0) (fun c : Dev nD => (dutyTok ER (recvCell c 0) 0 false : sProp 𝕄)),
    bigSep_univ_equiv (along 1) (fun c : Dev nD => (dutyTok ER (recvCell c 1) 0 false : sProp 𝕄)),
    bigSep_univ_equiv (along 2) (fun c : Dev nD => (dutyTok ER (recvCell c 2) 0 false : sProp 𝕄)),
    bigSep_univ_equiv (along 3) (fun c : Dev nD => (dutyTok ER (recvCell c 3) 0 false : sProp 𝕄)),
    bigSep_univ_equiv (along 4) (fun c : Dev nD => (dutyTok ER (recvCell c 4) 0 false : sProp 𝕄)),
    bigSep_univ_equiv (along 5) (fun c : Dev nD => (dutyTok ER (recvCell c 5) 0 false : sProp 𝕄))]
  exact BI.Entails.refl _

omit [FloatOps F] in
theorem with_records {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
/-- The invariants' names fixed and shared, and each device given its own. -/
theorem regroup :
    (bigSep Finset.univ fun c : Dev nD => iprop((bigSep Finset.univ fun j => iprop(∃ κ : ℕ, cellInv ER (sched m ρ) κ (kcell (c, j))))
          ∗ (bigSep Finset.univ fun j => iprop(atPos ER (kcell (c, j)) 0 ∅ 0 ∗ reached ER (kcell (c, j)) 0)) ∗ toks c) : sProp 𝕄)
      ⊢ bigSep Finset.univ (G' m ρ) := by
  rw [bigSep_sep', bigSep_sep', ← bigSep_univ_prod (fun cj : Dev nD × Fin 13 => iprop(∃ κ : ℕ, cellInv ER (sched m ρ) κ (kcell cj))),
    bigSep_congr (s := Finset.univ) (fun (c : Dev nD) _ => bigSep_sep' Finset.univ (fun j : Fin 13 => (atPos ER (kcell (c, j)) 0 ∅ 0 : sProp 𝕄)) (fun j => reached ER (kcell (c, j)) 0)),
    bigSep_sep', ← bigSep_univ_prod (fun cj : Dev nD × Fin 13 => (reached ER (kcell cj) 0 : sProp 𝕄))]
  iintro ⟨HI, ⟨Hat, #HR⟩, Htok⟩
  ihave HK := (BI.bigSep_exists_pi Finset.univ (fun (cj : Dev nD × Fin 13) (κ : ℕ) => (cellInv ER (sched m ρ) κ (kcell cj) : sProp 𝕄))) $$ HI
  icases HK with ⟨%K, #HI⟩
  ihave Htk := (toks_around (F := F)) $$ Htok
  iapply (with_records (R := records m ρ K) (Φ := fun c => iprop(positions c ∗ payToks c)) fun c _ => show iprop(records m ρ K ∗ positions c ∗ payToks c) ⊢ G' m ρ c from by
    unfold G' ghost
    iintro H
    iexists K
    iexact H)
  isplitr
  · unfold records; isplitl; · iexact HI
    iexact HR
  · iapply (Entails.of_eq (bigSep_sep' Finset.univ (fun c : Dev nD => (positions c : sProp 𝕄)) payToks).symm)
    isplitl [Hat]
    · unfold positions; iexact Hat
    iexact Htk

omit [FloatOps F] in
/-- All devices' semaphores turned at once into their shares of the ghost state. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits of the waits -/

omit [FloatOps F] in
/-- Of what the last `n + 1` copies owe, a device is credited with what the first of them owes it. -/
theorem cred_step (n : ℕ) (c : Dev nD) (Φ : sProp 𝕄) (h : (Pipeline.launchCred (fun d => rem d n) c : sProp 𝕄) ⊢ Φ) :
    (Pipeline.launchCred (fun d => rem d (n + 1)) c : sProp 𝕄) ⊢ iprop(cred (tallyAt (recvCell c ⟨5 - n, by omega⟩) () N) ∗ Φ) := by
  have hn : 5 - n < 6 := by omega
  rw [show (fun d => rem d (n + 1)) = fun d => rem d n + due ⟨5 - n, hn⟩ d from rfl, Pipeline.launchCred_add]
  iintro ⟨H, Hd⟩
  isplitl [Hd]
  · unfold due
    iapply (Pipeline.launchCred_tallyAt (SemLoc.dma (recvS ⟨5 - n, hn⟩)) (peer ⟨5 - n, hn⟩) (orig ⟨5 - n, hn⟩)
      (peer_orig _) (orig_peer _) () N c)
    iexact Hd
  · iapply h; iexact H

omit [FloatOps F] in
/-- A device's credits at launch: its barrier's two units and its six receives'. -/
theorem creds (c : Dev nD) :
    (Pipeline.launchCred O₀ c : sProp 𝕄) ⊢ iprop(cred (tallyAt (barCell c) () 2) ∗ six (fun k => cred (tallyAt (recvCell c k) () N))) := by
  rw [show O₀ = fun d => (rem d 6 + tallyAt (barCell (nxt d)) () 1) + tallyAt (barCell (prv d)) () 1 from rfl,
    Pipeline.launchCred_add, Pipeline.launchCred_add]
  iintro ⟨⟨H, HN⟩, HP⟩
  ihave HN' := (Pipeline.launchCred_tallyAt (SemLoc.reg barS) nxt prv nxt_prv prv_nxt () 1 c) $$ HN
  ihave HP' := (Pipeline.launchCred_tallyAt (SemLoc.reg barS) prv nxt prv_nxt nxt_prv () 1 c) $$ HP
  isplitl [HN' HP']
  · rw [show (tallyAt (barCell c) () 2 : CellTallies nD τ sig Unit) = tallyAt (barCell c) () 1 + tallyAt (barCell c) () 1 from (tallyAt_add (barCell c) () 1 1).symm]
    iapply (cred_add _ _).2
    isplitl [HN'] <;> iassumption
  · unfold six
    ihave HS := (cred_step 5 c _ (cred_step 4 c _ (cred_step 3 c _ (cred_step 2 c _ (cred_step 1 c _ (cred_step 0 c iprop(emp) (by
      rw [show (fun d => rem d 0) = fun _ => 0 from rfl, Pipeline.launchCred_zero]))))))) $$ H
    icases HS with ⟨H0, H1, H2, H3, H4, H5, -⟩
    isplitl [H0]; · iexact H0
    isplitl [H1]; · iexact H1
    isplitl [H2]; · iexact H2
    isplitl [H3]; · iexact H3
    isplitl [H4]; · iexact H4
    iexact H5

/-! ## What the launch theorem asks -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = start m ρ c from rfl, scopedRest0_eq]
  iintro ⟨Hs, -, -⟩
  iexact Hs

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = finish c from rfl, scopedRest0_eq, ownSems0_eq, unscopedSems0_eq]
  unfold finish six
  iintro ⟨HB, ⟨S0, S1, S2, S3, S4, S5⟩, HV⟩
  isplitl [HB]; · iexact HB
  isplitl
  · isplitl [S0]; · iexact S0
    isplitl [S1]; · iexact S1
    isplitl [S2]; · iexact S2
    isplitl [S3]; · iexact S3
    isplitl [S4]; · iexact S4
    isplitl [S5]; · iexact S5
    iexact HV
  · iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- A window's array after the run. -/
def finalA (c : Dev nD) (w : Fin cfg0.W) : Buf (Elt F) ((cfg0.win w).arr.view.loc (c : Thread nD τ)) := (dats m ρ 0 c).arrAt w cfg0.N

/-- Every device's windows' arrays are at their final contents. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory and at any float values, every weakly fair run of the program on the four devices ends, each device's
    arrays at their final contents and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument's array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.KernelIdeal.Gather

end
-- ==== Proof.Ideal.Result.lean ====
/-
# The result

Each device's result is the gathered array, and when the devices' arguments are the four blocks of one array, the gathered
array is that array.
-/
module

public import proofs.«01_k».proof.Proof.Ideal.Run
public import Idealize.ShloMosaic.Lib.Layout

@[expose] public section

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The windows' arrays -/

/-- What is staged of the argument is the whole of it. -/
theorem xstg_eq (c : Dev nD) : xstg m ρ c = m ((c : Thread nD τ).loc main_arg0) := by
  have hz : (fun a => (win0_0.index (0 : Fin 1)) a * main_arg0.ty.shape.size a) = fun _ => 0 :=
    funext fun a => by fin_cases a <;> decide
  have hr := fun f => Memref.read_access_unit_zero (Elt F) main_arg0 hz (fun a => by fin_cases a <;> decide) f
  unfold xstg s₀
  rw [hr]

/-- Each device's result holds the gathered array after the run. -/
theorem finalA_o (c : Dev nD) : finalA m ρ c (1 : Fin 2) = gathered m ρ := by
  have hz : (fun a => (win0_1.index (0 : Fin 1)) a * main_v1.ty.shape.size a) = fun _ => 0 :=
    funext fun a => by fin_cases a <;> decide
  have hr := fun f => Memref.read_access_unit_zero (Elt F) main_v1 hz (fun a => by fin_cases a <;> decide) f
  have ho : (win0_1.blk (0 : Fin 1)).view.read (Elt F) (finalA m ρ c (1 : Fin 2)) = gathered m ρ := by
    unfold finalA
    rw [show cfg0.N = ((0 : Fin 1) : Fin cfg0.N).val + 1 from rfl, (dats m ρ 0 c).arrAt_succ (1 : Fin 2) (0 : Fin 1),
      show (cfg0.win (1 : Fin 2)).flush (0 : Fin 1) = true from by decide, if_pos rfl]
    exact View.read_write_univ _ _
  rw [hr] at ho
  exact ho

/-! ## The gathered array -/

/-- If device `c`'s argument is block `c` of an array cut along its rows, the gathered array is that array. -/
theorem gathered_of_blocks (w : S4096x512.Idx → Elt F .bf16)
    (h : ∀ c : Dev nD, m ((c : Thread nD τ).loc main_arg0) = Layout.block ⟨2, ![1024, 512]⟩ ⟨2, ![4096, 512]⟩ 0 4 c w) :
    gathered m ρ = w := by
  funext i
  unfold gathered
  rw [xstg_eq, h (owner i), Layout.block_apply]
  refine congrArg w (funext fun a => Fin.ext ?_)
  fin_cases a
  · show (i 0).val / 1024 * 1024 + (i 0).val % 1024 = (i 0).val
    omega
  · rfl

/-- From any memory, every run of the program ends with the gathered array in each device's result, its argument unchanged,
    and every semaphore at zero. -/
theorem run_gathers : θ_run defs (onTc (τ := τ) (main (F := F))) (s₀ m ρ) (fun r =>
    (∀ c : Dev nD, r.2.mem ((c : Thread nD τ).loc main_v1) = gathered m ρ
      ∧ r.2.mem ((c : Thread nD τ).loc main_arg0) = m ((c : Thread nD τ).loc main_arg0)) ∧ r.2.sem = fun _ => 0) :=
  (θ_run defs _ _).mono (fun _ h => ⟨fun c => ⟨(h.1 c (1 : Fin 2)).trans (finalA_o m ρ c), (h.1 c (0 : Fin 2)).trans (finalA_x m ρ c)⟩, h.2⟩)
    (run_main m ρ)

end Cert.KernelIdeal.Gather

end
-- ==== Proof.RefRun.lean ====
/-
# The reference's run

The reference returns its argument, so its run ends with the argument's array as it was.
-/
module

public import Idealize.ShloMosaic.Lib.StableHlo.Run
public import Idealize.ShloMosaic.Lib.Quiescent
public import proofs.«01_k».proof.Proof.Gen.ReferenceIdeal

@[expose] public section

noncomputable section

namespace Cert.ReferenceIdeal.Identity

open Cert.ReferenceIdeal Cert.ReferenceIdeal.Gen
open Idealize.ShloMosaic Idealize.ShloMosaic.TcCoe Idealize.ShloMosaic.StableHlo Idealize.SL.Sem

variable {F : FTy → Type} [FloatOps F]

/-- From any memory with every semaphore at zero, every run of the reference ends with its argument unchanged and every
    semaphore at zero. -/
theorem run (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)) ∧ r.2.sem = fun _ => 0 :=
  (θ_run defs _ _).mono (fun r h => ⟨fun c => h c main_arg0, sem_eq_zero_of_no_sems (by decide) r.2⟩)
    (run_seq (by decide) (by decide) defs main (fun _ => []) (fun _ => rfl) (fun _ => trivial) m ρ)

end Cert.ReferenceIdeal.Identity

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Ideal.Result
public import proofs.«01_k».proof.Proof.Printed.Result
public import proofs.«01_k».proof.Proof.RefRun
public import Idealize.ShloMosaic.Adequacy
public import Idealize.ShloMosaic.Init

@[expose] public section

noncomputable section

namespace Cert.Proof

open Idealize.ShloMosaic Idealize.SL.Sem Cert.Kernel

/-- The kernel as printed always ends, its argument unchanged and every semaphore at zero. -/
theorem frame_printed : Cert.quiescent_Kernel := fun m g _ =>
  (θ_run Cert.Kernel.defs _ _).mono (fun _ h => ⟨fun c => (h.1 c).2, h.2⟩) (Cert.Kernel.Gather.run_gathers (F := Bits) m g)

/-- The kernel at exact values always ends, its argument unchanged and every semaphore at zero. -/
theorem frame_ideal : Cert.quiescent_KernelIdeal := fun m g _ =>
  (θ_run Cert.KernelIdeal.defs _ _).mono (fun _ h => ⟨fun c => (h.1 c).2, h.2⟩) (Cert.KernelIdeal.Gather.run_gathers (F := Ideal) m g)

/-- The reference always ends, its argument unchanged and every semaphore at zero. -/
theorem frame_reference : Cert.quiescent_ReferenceIdeal := fun m g _ => Cert.ReferenceIdeal.Identity.run (F := Ideal) m g

/-- When the devices' arguments are the four blocks of the reference's argument, each device's result ends as the whole of
    it, which is what the reference returns. -/
theorem value : Cert.algebraic_KernelIdeal_ReferenceIdeal := by
  intro m g m' g' _ hblocks
  refine ⟨m' (((0 : Dev Cert.ReferenceIdeal.nD).tc : Thread _ Cert.ReferenceIdeal.τ).loc Cert.ReferenceIdeal.main_arg0), ?_, ?_⟩
  · have hv := Cert.KernelIdeal.Gather.gathered_of_blocks (F := Ideal) m g _ hblocks
    exact (θ_run Cert.KernelIdeal.defs _ _).mono (fun _ h c => ⟨(h.1 c).1.trans hv, (h.1 c).2⟩)
      (Cert.KernelIdeal.Gather.run_gathers (F := Ideal) m g)
  · exact (θ_run Cert.ReferenceIdeal.defs _ _).mono (fun _ h => ⟨h.1 0, h.1 0⟩) (Cert.ReferenceIdeal.Identity.run (F := Ideal) m' g')

/-- All the claims. -/
theorem claim : Cert.Claim := ⟨Cert.Kernel.Gen.facts, Cert.KernelIdeal.Gen.facts, Cert.ReferenceIdeal.Gen.facts,
  frame_printed, frame_ideal, frame_reference, trivial, value⟩

end Cert.Proof

end
